-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ca_atoms_lead [hPre_ca_atoms_lead : Cert.Pre_ca_atoms_lead.Facts] (m : (ℓ : Loc Cert.KernelIdeal.nD Cert.KernelIdeal.τ Cert.KernelIdeal.sig) → Buf (Elt Ideal) ℓ) : Prop :=
  ∀ c : Dev Cert.KernelIdeal.nD,
    (Cert.Pre_ca_atoms_lead.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ca_atoms_lead [hPre_ca_atoms_lead : Cert.Pre_ca_atoms_lead.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ca_atoms_lead.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_ca_atoms_lead [hKernelIdeal : Cert.KernelIdeal.Facts] [hPre_ca_atoms_lead : Cert.Pre_ca_atoms_lead.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ca_atoms_lead m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ca_atoms_lead [hReferenceIdeal : Cert.ReferenceIdeal.Facts] [hPre_ca_atoms_lead : Cert.Pre_ca_atoms_lead.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ca_atoms_lead m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_ca_atoms_lead [hKernelIdeal : Cert.KernelIdeal.Facts] [hReferenceIdeal : Cert.ReferenceIdeal.Facts] [hPre_ca_atoms_lead : Cert.Pre_ca_atoms_lead.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ca_atoms_lead m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ca_atoms_lead : Cert.Pre_ca_atoms_lead.Facts),
    quiescent_Kernel (hKernel := hKernel)
    ∧ quiescent_KernelIdeal (hKernelIdeal := hKernelIdeal)
    ∧ quiescent_KernelIdeal_pre_ca_atoms_lead (hKernelIdeal := hKernelIdeal) (hPre_ca_atoms_lead := hPre_ca_atoms_lead)
    ∧ quiescent_ReferenceIdeal (hReferenceIdeal := hReferenceIdeal)
    ∧ quiescent_ReferenceIdeal_pre_ca_atoms_lead (hReferenceIdeal := hReferenceIdeal) (hPre_ca_atoms_lead := hPre_ca_atoms_lead)
    ∧ preserves_Kernel_KernelIdeal
    ∧ algebraic_KernelIdeal_ReferenceIdeal_pre_ca_atoms_lead (hKernelIdeal := hKernelIdeal) (hReferenceIdeal := hReferenceIdeal) (hPre_ca_atoms_lead := hPre_ca_atoms_lead)
-- ==== Pre_ca_atoms_lead.lean ====
abbrev S2097152x5 : Shape := ⟨2, ![2097152, 5]⟩
abbrev S8x8x4096x4 : Shape := ⟨4, ![8, 8, 4096, 4]⟩
abbrev S8x8x4096x4x4 : Shape := ⟨5, ![8, 8, 4096, 4, 4]⟩
abbrev S8x8x4096x4x1 : Shape := ⟨5, ![8, 8, 4096, 4, 1]⟩
abbrev S2097152x4 : Shape := ⟨2, ![2097152, 4]⟩
abbrev S1 : Shape := ⟨1, ![1]⟩
abbrev S8x8x4096x8x5 : Shape := ⟨5, ![8, 8, 4096, 8, 5]⟩
abbrev S8x8x4096x8x1 : Shape := ⟨5, ![8, 8, 4096, 8, 1]⟩
abbrev S8x8x4096x8 : Shape := ⟨4, ![8, 8, 4096, 8]⟩
abbrev S_ : Shape := ⟨0, ![]⟩

class Facts : Prop where
  shapeCasts_S2097152x5_S8x8x4096x8x5 : S2097152x5.ShapeCasts S8x8x4096x8x5
  slices_S8x8x4096x8x5_S8x8x4096x8x1_0_0_0_0_0 : S8x8x4096x8x5.Slices ![0, 0, 0, 0, 0] S8x8x4096x8x1
  shapeCasts_S8x8x4096x8x1_S8x8x4096x8 : S8x8x4096x8x1.ShapeCasts S8x8x4096x8
  bcast_S_S8x8x4096x8 : S_.BroadcastsInDim S8x8x4096x8 (![] : Fin 0 → Fin S8x8x4096x8.rank)
  slices_S8x8x4096x8x5_S8x8x4096x8x1_0_0_0_0_2 : S8x8x4096x8x5.Slices ![0, 0, 0, 0, 2] S8x8x4096x8x1
  slices_S8x8x4096x8x5_S8x8x4096x8x1_0_0_0_0_3 : S8x8x4096x8x5.Slices ![0, 0, 0, 0, 3] S8x8x4096x8x1
  slices_S8x8x4096x8x5_S8x8x4096x8x1_0_0_0_0_4 : S8x8x4096x8x5.Slices ![0, 0, 0, 0, 4] S8x8x4096x8x1
  slices_S8x8x4096x8x5_S8x8x4096x8x1_0_0_0_0_1 : S8x8x4096x8x5.Slices ![0, 0, 0, 0, 1] S8x8x4096x8x1

variable [Facts]

def fn_part1 {F : FTy → Type} [FloatOps F] (main_v0 : IVec S8x8x4096x8x5 32) (main_v4 : IVec S8x8x4096x8 1) (main_v7 : IVec S8x8x4096x8 1) (main_v21 : IVec S8x8x4096x8 1) : IVec S8x8x4096x8 1 :=
  let main_v22 : IVec S8x8x4096x8x1 32 := (extractStridedSlice S8x8x4096x8x1 ![0, 0, 0, 0, 1] · slices_S8x8x4096x8x5_S8x8x4096x8x1_0_0_0_0_1) main_v0
  let main_v23 : IVec S8x8x4096x8 32 := shapeCast S8x8x4096x8 main_v22 shapeCasts_S8x8x4096x8x1_S8x8x4096x8
  let main_c_1 : IVec S_ 32 := constantI S_ 32 0#32
  let main_v24 : IVec S8x8x4096x8 32 := broadcastInDim S8x8x4096x8 ![] bcast_S_S8x8x4096x8 main_c_1
  let main_v25 : IVec S8x8x4096x8 1 := cmpi .sge main_v23 main_v24
  let main_v26 : IVec S8x8x4096x8x1 32 := (extractStridedSlice S8x8x4096x8x1 ![0, 0, 0, 0, 1] · slices_S8x8x4096x8x5_S8x8x4096x8x1_0_0_0_0_1) main_v0
  let main_v27 : IVec S8x8x4096x8 32 := shapeCast S8x8x4096x8 main_v26 shapeCasts_S8x8x4096x8x1_S8x8x4096x8
  let main_c_2 : IVec S_ 32 := constantI S_ 32 20#32
  let main_v28 : IVec S8x8x4096x8 32 := broadcastInDim S8x8x4096x8 ![] bcast_S_S8x8x4096x8 main_c_2
  let main_v29 : IVec S8x8x4096x8 1 := cmpi .slt main_v27 main_v28
  let main_v30 : IVec S8x8x4096x8 1 := andi main_v25 main_v29
  let main_v31 : IVec S8x8x4096x8x1 32 := (extractStridedSlice S8x8x4096x8x1 ![0, 0, 0, 0, 1] · slices_S8x8x4096x8x5_S8x8x4096x8x1_0_0_0_0_1) main_v0
  let main_v32 : IVec S8x8x4096x8 32 := shapeCast S8x8x4096x8 main_v31 shapeCasts_S8x8x4096x8x1_S8x8x4096x8
  let main_c_3 : IVec S_ 32 := constantI S_ 32 999#32
  let main_v33 : IVec S8x8x4096x8 32 := broadcastInDim S8x8x4096x8 ![] bcast_S_S8x8x4096x8 main_c_3
  let main_v34 : IVec S8x8x4096x8 1 := cmpi .eq main_v32 main_v33
  let main_v35 : IVec S8x8x4096x8 1 := ori main_v30 main_v34
  let main_v36 : IVec S8x8x4096x8 1 := cmpi .eq main_v4 main_v7
  let main_v37 : IVec S8x8x4096x8 1 := noti main_v7
  let main_v38 : IVec S8x8x4096x8 1 := andi main_v21 main_v35
  let main_v39 : IVec S8x8x4096x8 1 := ori main_v37 main_v38
  let main_v40 : IVec S8x8x4096x8 1 := andi main_v36 main_v39
  main_v40

def fn {F : FTy → Type} [FloatOps F] (main_arg0 : IVec S2097152x5 32) (main_arg1 : FVec F S8x8x4096x4 .f32) (main_arg2 : FVec F S8x8x4096x4x4 .f32) (main_arg3 : FVec F S8x8x4096x4x1 .f32) (main_arg4 : FVec F S8x8x4096x4x1 .f32) (main_arg5 : FVec F S8x8x4096x4x4 .f32) (main_arg6 : IVec S2097152x4 1) (main_arg7 : FVec F S1 .f32) : IVec S8x8x4096x8 1 :=
  let main_v0 : IVec S8x8x4096x8x5 32 := shapeCast S8x8x4096x8x5 main_arg0 shapeCasts_S2097152x5_S8x8x4096x8x5
  let main_v1 : IVec S8x8x4096x8x1 32 := (extractStridedSlice S8x8x4096x8x1 ![0, 0, 0, 0, 0] · slices_S8x8x4096x8x5_S8x8x4096x8x1_0_0_0_0_0) main_v0
  let main_v2 : IVec S8x8x4096x8 32 := shapeCast S8x8x4096x8 main_v1 shapeCasts_S8x8x4096x8x1_S8x8x4096x8
  let main_c : IVec S_ 32 := constantI S_ 32 1#32
  let main_v3 : IVec S8x8x4096x8 32 := broadcastInDim S8x8x4096x8 ![] bcast_S_S8x8x4096x8 main_c
  let main_v4 : IVec S8x8x4096x8 1 := cmpi .eq main_v2 main_v3
  let main_v5 : IVec S8x8x4096x8 32 := iotaInDim S8x8x4096x8 32 3
  let main_c_0 : IVec S_ 32 := constantI S_ 32 0#32
  let main_v6 : IVec S8x8x4096x8 32 := broadcastInDim S8x8x4096x8 ![] bcast_S_S8x8x4096x8 main_c_0
  let main_v7 : IVec S8x8x4096x8 1 := cmpi .eq main_v5 main_v6
  let main_v8 : IVec S8x8x4096x8x1 32 := (extractStridedSlice S8x8x4096x8x1 ![0, 0, 0, 0, 2] · slices_S8x8x4096x8x5_S8x8x4096x8x1_0_0_0_0_2) main_v0
  let main_v9 : IVec S8x8x4096x8 32 := shapeCast S8x8x4096x8 main_v8 shapeCasts_S8x8x4096x8x1_S8x8x4096x8
  let main_v10 : IVec S8x8x4096x8 32 := iotaInDim S8x8x4096x8 32 0
  let main_v11 : IVec S8x8x4096x8 1 := cmpi .eq main_v9 main_v10
  let main_v12 : IVec S8x8x4096x8x1 32 := (extractStridedSlice S8x8x4096x8x1 ![0, 0, 0, 0, 3] · slices_S8x8x4096x8x5_S8x8x4096x8x1_0_0_0_0_3) main_v0
  let main_v13 : IVec S8x8x4096x8 32 := shapeCast S8x8x4096x8 main_v12 shapeCasts_S8x8x4096x8x1_S8x8x4096x8
  let main_v14 : IVec S8x8x4096x8 32 := iotaInDim S8x8x4096x8 32 2
  let main_v15 : IVec S8x8x4096x8 1 := cmpi .eq main_v13 main_v14
  let main_v16 : IVec S8x8x4096x8 1 := andi main_v11 main_v15
  let main_v17 : IVec S8x8x4096x8x1 32 := (extractStridedSlice S8x8x4096x8x1 ![0, 0, 0, 0, 4] · slices_S8x8x4096x8x5_S8x8x4096x8x1_0_0_0_0_4) main_v0
  let main_v18 : IVec S8x8x4096x8 32 := shapeCast S8x8x4096x8 main_v17 shapeCasts_S8x8x4096x8x1_S8x8x4096x8
  let main_v19 : IVec S8x8x4096x8 32 := iotaInDim S8x8x4096x8 32 1
  let main_v20 : IVec S8x8x4096x8 1 := cmpi .eq main_v18 main_v19
  let main_v21 : IVec S8x8x4096x8 1 := andi main_v16 main_v20
  fn_part1 (F := F) main_v0 main_v4 main_v7 main_v21
-- ==== Kernel.lean ====
abbrev S2097152x5 : Shape := ⟨2, ![2097152, 5]⟩
abbrev S8x8x4096x4 : Shape := ⟨4, ![8, 8, 4096, 4]⟩
abbrev S8x8x4096x4x4 : Shape := ⟨5, ![8, 8, 4096, 4, 4]⟩
abbrev S8x8x4096x4x1 : Shape := ⟨5, ![8, 8, 4096, 4, 1]⟩
abbrev S2097152x4 : Shape := ⟨2, ![2097152, 4]⟩
abbrev S1 : Shape := ⟨1, ![1]⟩
abbrev S5x2097152 : Shape := ⟨2, ![5, 2097152]⟩
abbrev S4x2097152 : Shape := ⟨2, ![4, 2097152]⟩
abbrev S8x8x4x4x4096 : Shape := ⟨5, ![8, 8, 4, 4, 4096]⟩
abbrev S8x8x4x4096 : Shape := ⟨4, ![8, 8, 4, 4096]⟩
abbrev S8x8x4x1x4096 : Shape := ⟨5, ![8, 8, 4, 1, 4096]⟩
abbrev S_ : Shape := ⟨0, ![]⟩
abbrev S1x1 : Shape := ⟨2, ![1, 1]⟩
abbrev S512x64 : Shape := ⟨2, ![512, 64]⟩
abbrev S5x32768 : Shape := ⟨2, ![5, 32768]⟩
abbrev S4x32768 : Shape := ⟨2, ![4, 32768]⟩
abbrev S1x1x4x4x4096 : Shape := ⟨5, ![1, 1, 4, 4, 4096]⟩
abbrev S1x1x4x4096 : Shape := ⟨4, ![1, 1, 4, 4096]⟩
abbrev S1x1x4x1x4096 : Shape := ⟨5, ![1, 1, 4, 1, 4096]⟩
abbrev S1x32768 : Shape := ⟨2, ![1, 32768]⟩
abbrev S3x32768 : Shape := ⟨2, ![3, 32768]⟩
abbrev S8x32768 : Shape := ⟨2, ![8, 32768]⟩
abbrev S8x512 : Shape := ⟨2, ![8, 512]⟩
abbrev S512x512 : Shape := ⟨2, ![512, 512]⟩
abbrev S1x64 : Shape := ⟨2, ![1, 64]⟩
abbrev S1x4096 : Shape := ⟨2, ![1, 4096]⟩
abbrev S4096 : Shape := ⟨1, ![4096]⟩
abbrev S4x64 : Shape := ⟨2, ![4, 64]⟩
abbrev S4x4096 : Shape := ⟨2, ![4, 4096]⟩
abbrev S4x4x4096 : Shape := ⟨3, ![4, 4, 4096]⟩
abbrev S4x1x4096 : Shape := ⟨3, ![4, 1, 4096]⟩

abbrev nBuf : Space → Nat
  | .hbm => 35
  | .vmem => 18
  | .smem => 0
  | _ => 0

abbrev bufTy : (tb : Table) → Fin (tcTables nBuf tb) → BufTy
  | .hbm, ⟨0, _⟩ => ⟨S2097152x5, .i32⟩
  | .hbm, ⟨1, _⟩ => ⟨S8x8x4096x4, .f32⟩
  | .hbm, ⟨2, _⟩ => ⟨S8x8x4096x4x4, .f32⟩
  | .hbm, ⟨3, _⟩ => ⟨S8x8x4096x4x1, .f32⟩
  | .hbm, ⟨4, _⟩ => ⟨S8x8x4096x4x1, .f32⟩
  | .hbm, ⟨5, _⟩ => ⟨S8x8x4096x4x4, .f32⟩
  | .hbm, ⟨6, _⟩ => ⟨S2097152x4, .i1⟩
  | .hbm, ⟨7, _⟩ => ⟨S1, .f32⟩
  | .hbm, ⟨8, _⟩ => ⟨S5x2097152, .i32⟩
  | .hbm, ⟨9, _⟩ => ⟨S2097152x4, .i8⟩
  | .hbm, ⟨10, _⟩ => ⟨S2097152x4, .i8⟩
  | .hbm, ⟨11, _⟩ => ⟨S4x2097152, .i8⟩
  | .hbm, ⟨12, _⟩ => ⟨S8x8x4x4x4096, .f32⟩
  | .hbm, ⟨13, _⟩ => ⟨S8x8x4x4x4096, .f32⟩
  | .hbm, ⟨14, _⟩ => ⟨S8x8x4x4096, .f32⟩
  | .hbm, ⟨15, _⟩ => ⟨S8x8x4x1x4096, .f32⟩
  | .hbm, ⟨16, _⟩ => ⟨S8x8x4x1x4096, .f32⟩
  | .hbm, ⟨17, _⟩ => ⟨S1, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1x1, .f32⟩
  | .hbm, ⟨26, _⟩ => ⟨S512x64, .i32⟩
  | .hbm, ⟨27, _⟩ => ⟨S512x64, .i32⟩
  | .hbm, ⟨28, _⟩ => ⟨S_, .i32⟩
  | .hbm, ⟨29, _⟩ => ⟨S512x64, .i32⟩
  | .hbm, ⟨30, _⟩ => ⟨S512x64, .i32⟩
  | .hbm, ⟨31, _⟩ => ⟨S512x64, .i1⟩
  | .hbm, ⟨32, _⟩ => ⟨S512x64, .bf16⟩
  | .hbm, ⟨33, _⟩ => ⟨S8x8x4x4096, .f32⟩
  | .hbm, ⟨34, _⟩ => ⟨S8x8x4096x4, .f32⟩
  | .local _ .vmem, ⟨0, _⟩ => ⟨S5x32768, .i32⟩
  | .local _ .vmem, ⟨1, _⟩ => ⟨S5x32768, .i32⟩
  | .local _ .vmem, ⟨2, _⟩ => ⟨S4x32768, .i8⟩
  | .local _ .vmem, ⟨3, _⟩ => ⟨S4x32768, .i8⟩
  | .local _ .vmem, ⟨4, _⟩ => ⟨S1x1x4x4x4096, .f32⟩
  | .local _ .vmem, ⟨5, _⟩ => ⟨S1x1x4x4x4096, .f32⟩
  | .local _ .vmem, ⟨6, _⟩ => ⟨S1x1x4x4x4096, .f32⟩
  | .local _ .vmem, ⟨7, _⟩ => ⟨S1x1x4x4x4096, .f32⟩
  | .local _ .vmem, ⟨8, _⟩ => ⟨S1x1x4x4096, .f32⟩
  | .local _ .vmem, ⟨9, _⟩ => ⟨S1x1x4x4096, .f32⟩
  | .local _ .vmem, ⟨10, _⟩ => ⟨S1x1x4x1x4096, .f32⟩
  | .local _ .vmem, ⟨11, _⟩ => ⟨S1x1x4x1x4096, .f32⟩
  | .local _ .vmem, ⟨12, _⟩ => ⟨S1x1x4x1x4096, .f32⟩
  | .local _ .vmem, ⟨13, _⟩ => ⟨S1x1x4x1x4096, .f32⟩
  | .local _ .vmem, ⟨14, _⟩ => ⟨S512x64, .bf16⟩
  | .local _ .vmem, ⟨15, _⟩ => ⟨S1x1, .f32⟩
  | .local _ .vmem, ⟨16, _⟩ => ⟨S1x1x4x4096, .f32⟩
  | .local _ .vmem, ⟨17, _⟩ => ⟨S1x1x4x4096, .f32⟩
  | _, _ => ⟨S2097152x5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S5x32768 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x32768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4x4x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x4x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x4x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2097152x5 : Shape := ⟨2, ![2097152, 5]⟩
abbrev S8x8x4096x4 : Shape := ⟨4, ![8, 8, 4096, 4]⟩
abbrev S8x8x4096x4x4 : Shape := ⟨5, ![8, 8, 4096, 4, 4]⟩
abbrev S8x8x4096x4x1 : Shape := ⟨5, ![8, 8, 4096, 4, 1]⟩
abbrev S2097152x4 : Shape := ⟨2, ![2097152, 4]⟩
abbrev S1 : Shape := ⟨1, ![1]⟩
abbrev S20 : Shape := ⟨1, ![20]⟩
abbrev S2097152x1 : Shape := ⟨2, ![2097152, 1]⟩
abbrev S2097152 : Shape := ⟨1, ![2097152]⟩
abbrev S_ : Shape := ⟨0, ![]⟩

abbrev nBuf : Space → Nat
  | .hbm => 233
  | .vmem => 0
  | .smem => 0
  | _ => 0

abbrev hbmTy0_0 (i : Nat) : BufTy := match i % 128 with
  | 0 => ⟨S2097152x5, .i32⟩
  | 1 => ⟨S8x8x4096x4, .f32⟩
  | 2 => ⟨S8x8x4096x4x4, .f32⟩
  | 3 => ⟨S8x8x4096x4x1, .f32⟩
  | 4 => ⟨S8x8x4096x4x1, .f32⟩
  | 5 => ⟨S8x8x4096x4x4, .f32⟩
  | 6 => ⟨S2097152x4, .i1⟩
  | 7 => ⟨S1, .f32⟩
  | 8 => ⟨S20, .f32⟩
  | 9 => ⟨S2097152x1, .i32⟩
  | 10 => ⟨S2097152, .i32⟩
  | 11 => ⟨S2097152x1, .i32⟩
  | 12 => ⟨S2097152, .i32⟩
  | 13 => ⟨S2097152x1, .i32⟩
  | 14 => ⟨S2097152, .i32⟩
  | 15 => ⟨S2097152x1, .i32⟩
  | 16 => ⟨S2097152, .i32⟩
  | 17 => ⟨S2097152x1, .i32⟩
  | 18 => ⟨S2097152, .i32⟩
  | 19 => ⟨S_, .i32⟩
  | 20 => ⟨S2097152, .i32⟩
  | 21 => ⟨S2097152, .i1⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .i32⟩
  | 30 => ⟨S2097152, .i32⟩
  | 31 => ⟨S2097152, .i1⟩
  | 32 => ⟨S_, .i32⟩
  | 33 => ⟨S2097152, .i32⟩
  | 34 => ⟨S2097152, .i32⟩
  | 35 => ⟨S2097152, .i32⟩
  | 36 => ⟨S2097152x1, .i32⟩
  | 37 => ⟨S2097152, .f32⟩
  | 38 => ⟨S2097152, .f32⟩
  | 39 => ⟨S2097152, .f32⟩
  | 40 => ⟨S_, .i32⟩
  | 41 => ⟨S2097152, .i32⟩
  | 42 => ⟨S2097152, .i1⟩
  | 43 => ⟨S_, .f32⟩
  | 44 => ⟨S8x8x4096x4, .f32⟩
  | 45 => ⟨S2097152x1, .i1⟩
  | 46 => ⟨S2097152, .i1⟩
  | 47 => ⟨S2097152, .i1⟩
  | 48 => ⟨S2097152, .i1⟩
  | 49 => ⟨S_, .i32⟩
  | 50 => ⟨S_, .i32⟩
  | 51 => ⟨S2097152, .i32⟩
  | 52 => ⟨S2097152, .i32⟩
  | 53 => ⟨S_, .f32⟩
  | 54 => ⟨S_, .f32⟩
  | 55 => ⟨S2097152, .f32⟩
  | 56 => ⟨S2097152, .f32⟩
  | 57 => ⟨S_, .i32⟩
  | 58 => ⟨S2097152, .i32⟩
  | 59 => ⟨S2097152, .i1⟩
  | 60 => ⟨S_, .i32⟩
  | 61 => ⟨S2097152, .i32⟩
  | 62 => ⟨S2097152, .i32⟩
  | 63 => ⟨S2097152, .i32⟩
  | 64 => ⟨S_, .i32⟩
  | 65 => ⟨S2097152, .i32⟩
  | 66 => ⟨S2097152, .i1⟩
  | 67 => ⟨S_, .i32⟩
  | 68 => ⟨S2097152, .i32⟩
  | 69 => ⟨S2097152, .i32⟩
  | 70 => ⟨S2097152, .i32⟩
  | 71 => ⟨S_, .i32⟩
  | 72 => ⟨S2097152, .i32⟩
  | 73 => ⟨S2097152, .i1⟩
  | 74 => ⟨S_, .i32⟩
  | 75 => ⟨S2097152, .i32⟩
  | 76 => ⟨S2097152, .i32⟩
  | 77 => ⟨S2097152, .i32⟩
  | 78 => ⟨S_, .i32⟩
  | 79 => ⟨S2097152, .i32⟩
  | 80 => ⟨S2097152, .i32⟩
  | 81 => ⟨S2097152x1, .i32⟩
  | 82 => ⟨S2097152x1, .i32⟩
  | 83 => ⟨S2097152x1, .i32⟩
  | 84 => ⟨S2097152x1, .i32⟩
  | 85 => ⟨S2097152x4, .i32⟩
  | 86 => ⟨S8x8x4096x4, .f32⟩
  | 87 => ⟨S2097152x1, .i1⟩
  | 88 => ⟨S2097152, .i1⟩
  | 89 => ⟨S2097152, .i1⟩
  | 90 => ⟨S2097152, .i1⟩
  | 91 => ⟨S_, .i32⟩
  | 92 => ⟨S_, .i32⟩
  | 93 => ⟨S2097152, .i32⟩
  | 94 => ⟨S2097152, .i32⟩
  | 95 => ⟨S_, .f32⟩
  | 96 => ⟨S_, .f32⟩
  | 97 => ⟨S2097152, .f32⟩
  | 98 => ⟨S2097152, .f32⟩
  | 99 => ⟨S_, .i32⟩
  | 100 => ⟨S2097152, .i32⟩
  | 101 => ⟨S2097152, .i1⟩
  | 102 => ⟨S_, .i32⟩
  | 103 => ⟨S2097152, .i32⟩
  | 104 => ⟨S2097152, .i32⟩
  | 105 => ⟨S2097152, .i32⟩
  | 106 => ⟨S_, .i32⟩
  | 107 => ⟨S2097152, .i32⟩
  | 108 => ⟨S2097152, .i1⟩
  | 109 => ⟨S_, .i32⟩
  | 110 => ⟨S2097152, .i32⟩
  | 111 => ⟨S2097152, .i32⟩
  | 112 => ⟨S2097152, .i32⟩
  | 113 => ⟨S_, .i32⟩
  | 114 => ⟨S2097152, .i32⟩
  | 115 => ⟨S2097152, .i1⟩
  | 116 => ⟨S_, .i32⟩
  | 117 => ⟨S2097152, .i32⟩
  | 118 => ⟨S2097152, .i32⟩
  | 119 => ⟨S2097152, .i32⟩
  | 120 => ⟨S_, .i32⟩
  | 121 => ⟨S2097152, .i32⟩
  | 122 => ⟨S2097152, .i32⟩
  | 123 => ⟨S2097152x1, .i32⟩
  | 124 => ⟨S2097152x1, .i32⟩
  | 125 => ⟨S2097152x1, .i32⟩
  | 126 => ⟨S2097152x1, .i32⟩
  | 127 => ⟨S2097152x4, .i32⟩
  | _ => ⟨S2097152x5, .i32⟩

abbrev hbmTy0_1 (i : Nat) : BufTy := match i % 128 with
  | 0 => ⟨S8x8x4096x4, .f32⟩
  | 1 => ⟨S2097152x1, .i1⟩
  | 2 => ⟨S2097152, .i1⟩
  | 3 => ⟨S2097152, .i1⟩
  | 4 => ⟨S2097152, .i1⟩
  | 5 => ⟨S_, .i32⟩
  | 6 => ⟨S_, .i32⟩
  | 7 => ⟨S2097152, .i32⟩
  | 8 => ⟨S2097152, .i32⟩
  | 9 => ⟨S_, .f32⟩
  | 10 => ⟨S_, .f32⟩
  | 11 => ⟨S2097152, .f32⟩
  | 12 => ⟨S2097152, .f32⟩
  | 13 => ⟨S_, .i32⟩
  | 14 => ⟨S2097152, .i32⟩
  | 15 => ⟨S2097152, .i1⟩
  | 16 => ⟨S_, .i32⟩
  | 17 => ⟨S2097152, .i32⟩
  | 18 => ⟨S2097152, .i32⟩
  | 19 => ⟨S2097152, .i32⟩
  | 20 => ⟨S_, .i32⟩
  | 21 => ⟨S2097152, .i32⟩
  | 22 => ⟨S2097152, .i1⟩
  | 23 => ⟨S_, .i32⟩
  | 24 => ⟨S2097152, .i32⟩
  | 25 => ⟨S2097152, .i32⟩
  | 26 => ⟨S2097152, .i32⟩
  | 27 => ⟨S_, .i32⟩
  | 28 => ⟨S2097152, .i32⟩
  | 29 => ⟨S2097152, .i1⟩
  | 30 => ⟨S_, .i32⟩
  | 31 => ⟨S2097152, .i32⟩
  | 32 => ⟨S2097152, .i32⟩
  | 33 => ⟨S2097152, .i32⟩
  | 34 => ⟨S_, .i32⟩
  | 35 => ⟨S2097152, .i32⟩
  | 36 => ⟨S2097152, .i32⟩
  | 37 => ⟨S2097152x1, .i32⟩
  | 38 => ⟨S2097152x1, .i32⟩
  | 39 => ⟨S2097152x1, .i32⟩
  | 40 => ⟨S2097152x1, .i32⟩
  | 41 => ⟨S2097152x4, .i32⟩
  | 42 => ⟨S8x8x4096x4, .f32⟩
  | 43 => ⟨S2097152x1, .i1⟩
  | 44 => ⟨S2097152, .i1⟩
  | 45 => ⟨S2097152, .i1⟩
  | 46 => ⟨S2097152, .i1⟩
  | 47 => ⟨S_, .i32⟩
  | 48 => ⟨S_, .i32⟩
  | 49 => ⟨S2097152, .i32⟩
  | 50 => ⟨S2097152, .i32⟩
  | 51 => ⟨S_, .f32⟩
  | 52 => ⟨S_, .f32⟩
  | 53 => ⟨S2097152, .f32⟩
  | 54 => ⟨S2097152, .f32⟩
  | 55 => ⟨S_, .i32⟩
  | 56 => ⟨S2097152, .i32⟩
  | 57 => ⟨S2097152, .i1⟩
  | 58 => ⟨S_, .i32⟩
  | 59 => ⟨S2097152, .i32⟩
  | 60 => ⟨S2097152, .i32⟩
  | 61 => ⟨S2097152, .i32⟩
  | 62 => ⟨S_, .i32⟩
  | 63 => ⟨S2097152, .i32⟩
  | 64 => ⟨S2097152, .i1⟩
  | 65 => ⟨S_, .i32⟩
  | 66 => ⟨S2097152, .i32⟩
  | 67 => ⟨S2097152, .i32⟩
  | 68 => ⟨S2097152, .i32⟩
  | 69 => ⟨S_, .i32⟩
  | 70 => ⟨S2097152, .i32⟩
  | 71 => ⟨S2097152, .i1⟩
  | 72 => ⟨S_, .i32⟩
  | 73 => ⟨S2097152, .i32⟩
  | 74 => ⟨S2097152, .i32⟩
  | 75 => ⟨S2097152, .i32⟩
  | 76 => ⟨S_, .i32⟩
  | 77 => ⟨S2097152, .i32⟩
  | 78 => ⟨S2097152, .i32⟩
  | 79 => ⟨S2097152x1, .i32⟩
  | 80 => ⟨S2097152x1, .i32⟩
  | 81 => ⟨S2097152x1, .i32⟩
  | 82 => ⟨S2097152x1, .i32⟩
  | 83 => ⟨S2097152x4, .i32⟩
  | 84 => ⟨S8x8x4096x4, .f32⟩
  | 85 => ⟨S_, .f32⟩
  | 86 => ⟨S8x8x4096x4, .f32⟩
  | 87 => ⟨S8x8x4096x4, .f32⟩
  | 88 => ⟨S8x8x4096x4, .f32⟩
  | 89 => ⟨S_, .f32⟩
  | 90 => ⟨S8x8x4096x4, .f32⟩
  | 91 => ⟨S8x8x4096x4, .f32⟩
  | 92 => ⟨S8x8x4096x4, .f32⟩
  | 93 => ⟨S8x8x4096x4, .f32⟩
  | 94 => ⟨S8x8x4096x4, .f32⟩
  | 95 => ⟨S_, .f32⟩
  | 96 => ⟨S8x8x4096x4, .f32⟩
  | 97 => ⟨S8x8x4096x4, .f32⟩
  | 98 => ⟨S8x8x4096x4, .f32⟩
  | 99 => ⟨S8x8x4096x4, .i1⟩
  | 100 => ⟨S8x8x4096x4, .i1⟩
  | 101 => ⟨S8x8x4096x4, .i1⟩
  | 102 => ⟨S8x8x4096x4, .i1⟩
  | 103 => ⟨S8x8x4096x4, .f32⟩
  | 104 => ⟨S8x8x4096x4, .f32⟩
  | _ => ⟨S2097152x5, .i32⟩

abbrev hbmTy (i : Nat) : BufTy := match i / 128 with
  | 0 => hbmTy0_0 i
  | 1 => hbmTy0_1 i
  | _ => ⟨S2097152x5, .i32⟩

abbrev bufTy : (tb : Table) → Fin (tcTables nBuf tb) → BufTy
  | .hbm, ⟨i, _⟩ => hbmTy i
  | _, _ => ⟨S2097152x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_call0_v0 : Ref sig .tc := ⟨.hbm, 50, rfl⟩
abbrev main_call0_v1 : Ref sig .tc := ⟨.hbm, 51, rfl⟩
abbrev main_v33 : Ref sig .tc := ⟨.hbm, 52, rfl⟩
abbrev main_cst_7 : Ref sig .tc := ⟨.hbm, 53, rfl⟩
abbrev main_call1_v0 : Ref sig .tc := ⟨.hbm, 54, rfl⟩
abbrev main_call1_v1 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_c_11 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_c_13 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_14 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_15 : Ref sig .tc := ⟨.hbm, 91, rfl⟩
abbrev main_call2_v0 : Ref sig .tc := ⟨.hbm, 92, rfl⟩
abbrev main_call2_v1 : Ref sig .tc := ⟨.hbm, 93, rfl⟩
abbrev main_v62 : Ref sig .tc := ⟨.hbm, 94, rfl⟩
abbrev main_cst_16 : Ref sig .tc := ⟨.hbm, 95, rfl⟩
abbrev main_call3_v0 : Ref sig .tc := ⟨.hbm, 96, rfl⟩
abbrev main_call3_v1 : Ref sig .tc := ⟨.hbm, 97, rfl⟩
abbrev main_v63 : Ref sig .tc := ⟨.hbm, 98, rfl⟩
abbrev main_c_17 : Ref sig .tc := ⟨.hbm, 99, rfl⟩
abbrev main_v64 : Ref sig .tc := ⟨.hbm, 100, rfl⟩
abbrev main_v65 : Ref sig .tc := ⟨.hbm, 101, rfl⟩
abbrev main_c_18 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_19 : Ref sig .tc := ⟨.hbm, 106, rfl⟩
abbrev main_v69 : Ref sig .tc := ⟨.hbm, 107, rfl⟩
abbrev main_v70 : Ref sig .tc := ⟨.hbm, 108, rfl⟩
abbrev main_c_20 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_21 : Ref sig .tc := ⟨.hbm, 113, rfl⟩
abbrev main_v74 : Ref sig .tc := ⟨.hbm, 114, rfl⟩
abbrev main_v75 : Ref sig .tc := ⟨.hbm, 115, rfl⟩
abbrev main_c_22 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_23 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_c_24 : Ref sig .tc := ⟨.hbm, 133, rfl⟩
abbrev main_call4_v0 : Ref sig .tc := ⟨.hbm, 134, rfl⟩
abbrev main_call4_v1 : Ref sig .tc := ⟨.hbm, 135, rfl⟩
abbrev main_v91 : Ref sig .tc := ⟨.hbm, 136, rfl⟩
abbrev main_cst_25 : Ref sig .tc := ⟨.hbm, 137, rfl⟩
abbrev main_call5_v0 : Ref sig .tc := ⟨.hbm, 138, rfl⟩
abbrev main_call5_v1 : Ref sig .tc := ⟨.hbm, 139, rfl⟩
abbrev main_v92 : Ref sig .tc := ⟨.hbm, 140, rfl⟩
abbrev main_c_26 : Ref sig .tc := ⟨.hbm, 141, rfl⟩
abbrev main_v93 : Ref sig .tc := ⟨.hbm, 142, rfl⟩
abbrev main_v94 : Ref sig .tc := ⟨.hbm, 143, rfl⟩
abbrev main_c_27 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_c_28 : Ref sig .tc := ⟨.hbm, 148, rfl⟩
abbrev main_v98 : Ref sig .tc := ⟨.hbm, 149, rfl⟩
abbrev main_v99 : Ref sig .tc := ⟨.hbm, 150, rfl⟩
abbrev main_c_29 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_c_30 : Ref sig .tc := ⟨.hbm, 155, rfl⟩
abbrev main_v103 : Ref sig .tc := ⟨.hbm, 156, rfl⟩
abbrev main_v104 : Ref sig .tc := ⟨.hbm, 157, rfl⟩
abbrev main_c_31 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_c_32 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_c_33 : Ref sig .tc := ⟨.hbm, 175, rfl⟩
abbrev main_call6_v0 : Ref sig .tc := ⟨.hbm, 176, rfl⟩
abbrev main_call6_v1 : Ref sig .tc := ⟨.hbm, 177, rfl⟩
abbrev main_v120 : Ref sig .tc := ⟨.hbm, 178, rfl⟩
abbrev main_cst_34 : Ref sig .tc := ⟨.hbm, 179, rfl⟩
abbrev main_call7_v0 : Ref sig .tc := ⟨.hbm, 180, rfl⟩
abbrev main_call7_v1 : Ref sig .tc := ⟨.hbm, 181, rfl⟩
abbrev main_v121 : Ref sig .tc := ⟨.hbm, 182, rfl⟩
abbrev main_c_35 : Ref sig .tc := ⟨.hbm, 183, rfl⟩
abbrev main_v122 : Ref sig .tc := ⟨.hbm, 184, rfl⟩
abbrev main_v123 : Ref sig .tc := ⟨.hbm, 185, rfl⟩
abbrev main_c_36 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_c_37 : Ref sig .tc := ⟨.hbm, 190, rfl⟩
abbrev main_v127 : Ref sig .tc := ⟨.hbm, 191, rfl⟩
abbrev main_v128 : Ref sig .tc := ⟨.hbm, 192, rfl⟩
abbrev main_c_38 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_c_39 : Ref sig .tc := ⟨.hbm, 197, rfl⟩
abbrev main_v132 : Ref sig .tc := ⟨.hbm, 198, rfl⟩
abbrev main_v133 : Ref sig .tc := ⟨.hbm, 199, rfl⟩
abbrev main_c_40 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_c_41 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_call8_cst : Ref sig .tc := ⟨.hbm, 213, rfl⟩
abbrev main_call8_v0 : Ref sig .tc := ⟨.hbm, 214, rfl⟩
abbrev main_v145 : Ref sig .tc := ⟨.hbm, 215, rfl⟩
abbrev main_v146 : Ref sig .tc := ⟨.hbm, 216, rfl⟩
abbrev main_cst_42 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_cst_43 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩

abbrev nD : Nat := 1
abbrev τ : Topo := Topo.v7x

variable {F : FTy → Type} [FloatOps F]
-- ==== Proof.Scatter.lean ====
/- A scatter of scalars into a box of rank four, one row of four index words per update, whose body
   returns the update: where an update lands, and what an element of the result holds. -/
module

public import Idealize.ShloMosaic.Lib.Pointwise
public import Idealize.ShloMosaic.Lib.Routing.OpsSet
public import Idealize.ShloMosaic.Lib.Routing.OpsPair

@[expose] public section

noncomputable section

namespace Cert.Proof.Scatter

open Idealize.ShloMosaic

variable {A B C D N : Nat}

/-- Update `n` reads component `q` of its start index at `(n, q)` of the table of index words. -/
theorem start_eq (d : ScatterDims ⟨4, ![A, B, C, D]⟩ ⟨2, ![N, 4]⟩ ⟨1, ![N]⟩) (hu : d.updateWindowDims = [])
    (hs : d.scatterDimsToOperandDims = [0, 1, 2, 3]) (hv : d.indexVectorDim = 1) (idx : IVec ⟨2, ![N, 4]⟩ 32) (n : Fin N)
    (q : Fin 4) : d.start (ix1 n) idx q = (idx (ix2 n q)).toInt := by
  have hm : q ∈ d.scatterDimsToOperandDims := by rw [hs]; fin_cases q <;> simp
  have hi : d.siIdx (ix1 n) ⟨d.scatterDimsToOperandDims.idxOf q, List.idxOf_lt_length_iff.2 hm⟩ = ix2 n q := by
    funext p
    apply Fin.ext
    match p with
    | ⟨0, _⟩ =>
      unfold ScatterDims.siIdx
      rw [dif_neg (by rw [hv]; exact Nat.zero_ne_one)]
      unfold ScatterDims.siCoord
      exact congrArg (fun t => ((ix1 n : (⟨1, ![N]⟩ : Shape).Idx) t).val) (Subsingleton.elim (α := Fin 1) _ 0)
    | ⟨1, _⟩ =>
      unfold ScatterDims.siIdx
      rw [dif_pos (by rw [hv])]
      show List.idxOf q d.scatterDimsToOperandDims = q.val
      rw [hs]
      fin_cases q <;> rfl
  unfold ScatterDims.start
  rw [dif_pos hm, hi]

/-- Every axis of the operand is an inserted one, so the window's coordinate is zero on each. -/
theorem window_eq (d : ScatterDims ⟨4, ![A, B, C, D]⟩ ⟨2, ![N, 4]⟩ ⟨1, ![N]⟩) (hw : d.insertedWindowDims = [0, 1, 2, 3])
    (n : Fin N) (q : Fin 4) : d.window (ix1 n) q = 0 := by
  unfold ScatterDims.window
  rw [dif_neg fun h => (of_decide_eq_true (List.mem_filter.1 h).2) (by rw [hw]; fin_cases q <;> simp)]

/-- Update `n` lands at `(a, b, c, e)` exactly when its four index words, read signed, are `a`, `b`, `c` and `e`. -/
theorem lands (d : ScatterDims ⟨4, ![A, B, C, D]⟩ ⟨2, ![N, 4]⟩ ⟨1, ![N]⟩) (hu : d.updateWindowDims = [])
    (hw : d.insertedWindowDims = [0, 1, 2, 3]) (hs : d.scatterDimsToOperandDims = [0, 1, 2, 3]) (hv : d.indexVectorDim = 1)
    (idx : IVec ⟨2, ![N, 4]⟩ 32) (n : Fin N) (a : Fin A) (b : Fin B) (c : Fin C) (e : Fin D) :
    d.resultIdx? (ix1 n) idx = some (ix4 a b c e)
      ↔ (idx (ix2 n 0)).toInt = a.val ∧ (idx (ix2 n 1)).toInt = b.val ∧ (idx (ix2 n 2)).toInt = c.val
        ∧ (idx (ix2 n 3)).toInt = e.val := by
  rw [Routing.resultIdx?_eq_some]
  have key : ∀ q : Fin 4, d.start (ix1 n) idx q + (d.window (ix1 n) q : Int) = (idx (ix2 n q)).toInt := fun q => by
    rw [start_eq d hu hs hv, window_eq d hw]; simp
  constructor
  · intro h
    exact ⟨(key 0).symm.trans (h 0), (key 1).symm.trans (h 1), (key 2).symm.trans (h 2), (key 3).symm.trans (h 3)⟩
  · intro h q
    refine (key q).trans ?_
    match q with
    | ⟨0, _⟩ => exact h.1
    | ⟨1, _⟩ => exact h.2.1
    | ⟨2, _⟩ => exact h.2.2.1
    | ⟨3, _⟩ => exact h.2.2.2

/-- An element at which exactly the update `m` can land holds that update where it does land, and the operand's
    element where it does not. -/
theorem scatter_one {α : Type} (d : ScatterDims ⟨4, ![A, B, C, D]⟩ ⟨2, ![N, 4]⟩ ⟨1, ![N]⟩) (hu : d.updateWindowDims = [])
    (hw : d.insertedWindowDims = [0, 1, 2, 3]) (hs : d.scatterDimsToOperandDims = [0, 1, 2, 3]) (hv : d.indexVectorDim = 1)
    (x : (⟨4, ![A, B, C, D]⟩ : Shape).Idx → α) (idx : IVec ⟨2, ![N, 4]⟩ 32) (upd : (⟨1, ![N]⟩ : Shape).Idx → α)
    (a : Fin A) (b : Fin B) (c : Fin C) (e : Fin D) (m : Fin N) (P : Prop) [Decidable P]
    (h : ∀ n : Fin N, ((idx (ix2 n 0)).toInt = a.val ∧ (idx (ix2 n 1)).toInt = b.val ∧ (idx (ix2 n 2)).toInt = c.val
        ∧ (idx (ix2 n 3)).toInt = e.val) ↔ (n = m ∧ P)) :
    Host.scatter d (fun _ w => w) x idx upd (ix4 a b c e) = if P then upd (ix1 m) else x (ix4 a b c e) := by
  have l := fun n : Fin N => (lands d hu hw hs hv idx n a b c e).trans (h n)
  by_cases p : P
  · rw [if_pos p]
    refine Routing.scatter_set_hit d x idx upd _ _ (fun k hk => ?_) (ix1 m) ((l m).2 ⟨rfl, p⟩)
    obtain ⟨n, rfl⟩ : ∃ n : Fin N, k = ix1 n := ⟨k 0, eq_ix1 k⟩
    rw [((l n).1 hk).1]
  · rw [if_neg p]
    refine Routing.scatter_set_miss d x idx upd _ fun k hk => ?_
    obtain ⟨n, rfl⟩ : ∃ n : Fin N, k = ix1 n := ⟨k 0, eq_ix1 k⟩
    exact p ((l n).1 hk).2

end Cert.Proof.Scatter

end
-- ==== Proof.Atoms.lean ====
/- What the precondition says of one atom: atoms come in rows of eight, a row's first atom is its C-alpha, and that
   atom's batch, chain, residue number and residue name are the ones its place in the table gives. -/
module

public import proofs.«01_k».proof.Proof.Gen.Pre_ca_atoms_lead
public import proofs.«01_k».proof.Proof.Scatter

@[expose] public section

noncomputable section

namespace Cert.Proof.Atoms

open Idealize.ShloMosaic Cert.Pre_ca_atoms_lead

/-- The number of the first atom of residue `r` of chain `c` of batch `b`. -/
def first (b c : Fin 8) (r : Fin 4096) : Fin 2097152 := ⟨((b.val * 8 + c.val) * 4096 + r.val) * 8, by omega⟩

/-- What is asked of the table of atoms. -/
structure Good (A : IVec ⟨2, ![2097152, 5]⟩ 32) : Prop where
  /-- An atom is a C-alpha exactly when it is the first of its row of eight. -/
  lead : ∀ n : Fin 2097152, A (ix2 n 0) = 1#32 ↔ n.val % 8 = 0
  batch : ∀ b c r, A (ix2 (first b c r) 2) = BitVec.ofNat 32 b.val
  resnum : ∀ b c r, A (ix2 (first b c r) 3) = BitVec.ofNat 32 r.val
  chain : ∀ b c r, A (ix2 (first b c r) 4) = BitVec.ofNat 32 c.val
  /-- A C-alpha's residue name is one of the twenty, or the padding word. -/
  name : ∀ b c r, (A (ix2 (first b c r) 1)).toNat < 20 ∨ A (ix2 (first b c r) 1) = 999#32

/-- A one-bit word made of a truth value is set exactly when the value is true. -/
theorem bit_iff (p : Bool) : BitVec.ofBool p = 1#1 ↔ p = true := by cases p <;> decide

/-- One element of the precondition's result, read: the words `x0 … x4` of an atom and the coordinates `b`, `c`, `r`, `t` of its place. -/
theorem word (x0 x1 x2 x3 x4 b c r t : BitVec 32)
    (e : IntOp.andi (IntOp.cmpi .eq (IntOp.cmpi .eq x0 1#32) (IntOp.cmpi .eq t 0#32))
      (IntOp.ori (~~~IntOp.cmpi .eq t 0#32)
        (IntOp.andi (IntOp.andi (IntOp.andi (IntOp.cmpi .eq x2 b) (IntOp.cmpi .eq x3 r)) (IntOp.cmpi .eq x4 c))
          (IntOp.ori (IntOp.andi (IntOp.cmpi .sge x1 0#32) (IntOp.cmpi .slt x1 20#32)) (IntOp.cmpi .eq x1 999#32)))) = 1#1) :
    (x0 = 1#32 ↔ t = 0#32) ∧ (t = 0#32 → x2 = b ∧ x3 = r ∧ x4 = c ∧ (x1.toNat < 20 ∨ x1 = 999#32)) := by
  have neg : x1.slt 0#32 = false → x1.slt 20#32 = true → x1.toNat < 20 := fun p q => by
    simp only [BitVec.slt, decide_eq_false_iff_not, decide_eq_true_eq, BitVec.toInt_eq_toNat_cond, BitVec.toNat_ofNat] at p q
    omega
  have key : ∀ p0 p1 p2 p3 p4 p5 p6 p7 : Bool,
      (BitVec.ofBool (BitVec.ofBool p0 == BitVec.ofBool p1)
        &&& (~~~BitVec.ofBool p1 ||| (BitVec.ofBool p2 &&& BitVec.ofBool p3 &&& BitVec.ofBool p4
          &&& (BitVec.ofBool p5 &&& BitVec.ofBool p6 ||| BitVec.ofBool p7)))) = 1#1 →
      p0 = p1 ∧ (p1 = true → p2 = true ∧ p3 = true ∧ p4 = true ∧ (p5 = true ∧ p6 = true ∨ p7 = true)) := by
    intro p0 p1 p2 p3 p4 p5 p6 p7
    cases p0 <;> cases p1 <;> cases p2 <;> cases p3 <;> cases p4 <;> cases p5 <;> cases p6 <;> cases p7 <;> decide
  obtain ⟨k0, k1⟩ := key (x0 == 1#32) (t == 0#32) (x2 == b) (x3 == r) (x4 == c) ((0#32).sle x1) (x1.slt 20#32) (x1 == 999#32) e
  refine ⟨?_, fun ht => ?_⟩
  · rw [← beq_iff_eq (a := x0), ← beq_iff_eq (a := t), k0]
  · obtain ⟨h2, h3, h4, h5⟩ := k1 (beq_iff_eq.2 ht)
    refine ⟨beq_iff_eq.1 h2, beq_iff_eq.1 h3, beq_iff_eq.1 h4, ?_⟩
    rcases h5 with ⟨h5, h6⟩ | h7
    · exact Or.inl (neg (by simpa [BitVec.sle, BitVec.slt] using h5) h6)
    · exact Or.inr (beq_iff_eq.1 h7)

/-- The precondition asks of the table of atoms what `Good` says. -/
theorem good (A : IVec S2097152x5 32) (a1 : FVec Ideal S8x8x4096x4 .f32) (a2 : FVec Ideal S8x8x4096x4x4 .f32) (a3 a4 : FVec Ideal S8x8x4096x4x1 .f32)
    (a5 : FVec Ideal S8x8x4096x4x4 .f32) (a6 : IVec S2097152x4 1) (a7 : FVec Ideal S1 .f32)
    (h : fn (F := Ideal) A a1 a2 a3 a4 a5 a6 a7 = fun _ => 1#1) : Good A := by
  have w : ∀ (b c : Fin 8) (r : Fin 4096) (t : Fin 8) (n : Fin 2097152),
      n.val = b.val * 262144 + c.val * 32768 + r.val * 8 + t.val →
      (A (ix2 n 0) = 1#32 ↔ t.val = 0) ∧ (t.val = 0 → A (ix2 n 2) = BitVec.ofNat 32 b.val ∧ A (ix2 n 3) = BitVec.ofNat 32 r.val
        ∧ A (ix2 n 4) = BitVec.ofNat 32 c.val ∧ ((A (ix2 n 1)).toNat < 20 ∨ A (ix2 n 1) = 999#32)) := fun b c r t n hn => by
    have e := congrFun h (ix4 b c r t)
    pointwise [fn, fn_part1] at e
    have hq : ∀ p, (⟨b.val * 262144 + c.val * 32768 + r.val * 8 + t.val, p⟩ : Fin 2097152) = n := fun p => Fin.ext hn.symm
    simp only [hq] at e
    have z : BitVec.ofNat 32 t.val = 0#32 ↔ t.val = 0 := by
      rw [← BitVec.toNat_inj, BitVec.toNat_ofNat, BitVec.toNat_ofNat]
      have := t.isLt
      omega
    have := word _ _ _ _ _ _ _ _ _ e
    rwa [z] at this
  have w0 := fun b c r => (w b c r 0 (first b c r) (by simp only [first, Fin.val_zero]; omega)).2 rfl
  refine ⟨fun n => ?_, fun b c r => (w0 b c r).1, fun b c r => (w0 b c r).2.1, fun b c r => (w0 b c r).2.2.1,
    fun b c r => (w0 b c r).2.2.2⟩
  have hn := n.isLt
  exact (w ⟨n.val / 262144, by omega⟩ ⟨n.val / 32768 % 8, by omega⟩ ⟨n.val / 8 % 4096, by omega⟩ ⟨n.val % 8, by omega⟩ n
    (by simp only; omega)).1

end Cert.Proof.Atoms

end
-- ==== Proof.Layer.lean ====
/- One of the reference's four scatters: the atoms that are not selected go to a batch that does not exist, a selected
   atom is the first of its row of eight and goes to its own place, in the scatter's own column. -/
module

public import proofs.«01_k».proof.Proof.Gen.ReferenceIdeal.Run
public import proofs.«01_k».proof.Proof.Atoms

@[expose] public section

noncomputable section

namespace Cert.Proof.Layer

open Idealize.ShloMosaic Cert.ReferenceIdeal Cert.ReferenceIdeal.Gen Cert.Proof.Atoms

/-- A small natural as a word, read back signed. -/
theorem toInt_small (k : Nat) (h : k < 2 ^ 31) : (BitVec.ofNat 32 k).toInt = k := by
  rw [BitVec.toInt_eq_toNat_cond, BitVec.toNat_ofNat]
  split <;> omega

/-- The wrap of a small natural, as a word, leaves it as it is. -/
theorem wrap_small (k : Nat) (a : BitVec 32) (h : k < 2 ^ 31) :
    Scalar.select (IntOp.cmpi .slt (BitVec.ofNat 32 k) 0#32) a (BitVec.ofNat 32 k) = BitVec.ofNat 32 k :=
  Routing.wrap_of_lt _ _ (by rw [BitVec.toNat_ofNat]; omega)

/-- A row's first atom determines its place. -/
theorem first_inj {b b' c c' : Fin 8} {r r' : Fin 4096} (h : first b c r = first b' c' r') : b = b' ∧ c = c' ∧ r = r' := by
  have e := congrArg Fin.val h
  simp only [first] at e
  have := b.isLt; have := b'.isLt; have := c.isLt; have := c'.isLt; have := r.isLt; have := r'.isLt
  refine ⟨Fin.ext ?_, Fin.ext ?_, Fin.ext ?_⟩ <;> omega

/-- The scatter of column `k`, read at `(b, c, r, a)`: the update of the row's first atom where that atom is selected and `a` is
    the column, and the operand's element elsewhere. -/
theorem layer (x : FVec Ideal S8x8x4096x4 .f32) (bi ch rn : IVec S2097152 32) (k : Fin 4) (kw : BitVec 32)
    (hk : kw = BitVec.ofNat 32 k.val) (upd : FVec Ideal S2097152 .f32) (sel : IVec S2097152 1)
    (hsel : ∀ n : Fin 2097152, sel (ix1 n) = 1#1 → ∃ (b c : Fin 8) (r : Fin 4096), n = first b c r
      ∧ bi (ix1 n) = BitVec.ofNat 32 b.val ∧ ch (ix1 n) = BitVec.ofNat 32 c.val ∧ rn (ix1 n) = BitVec.ofNat 32 r.val)
    (hno : ∀ n : Fin 2097152, sel (ix1 n) ≠ 1#1 → bi (ix1 n) = 8#32)
    (b c : Fin 8) (r : Fin 4096) (a : Fin 4) :
    Host.scatter scatter_S8x8x4096x4_S2097152x4_S2097152_n_0123_0123_1 (fun _ b => b) x
      (concatenate S2097152x4 1 [
        ⟨S2097152x1, broadcastInDim S2097152x1 ![0] bcast_S2097152_S2097152x1_0 (select (cmpi .slt bi (broadcastInDim S2097152 ![] bcast_S_S2097152 (constantI S_ 32 0#32))) (addi bi (broadcastInDim S2097152 ![] bcast_S_S2097152 (constantI S_ 32 8#32))) bi)⟩,
        ⟨S2097152x1, broadcastInDim S2097152x1 ![0] bcast_S2097152_S2097152x1_0 (select (cmpi .slt ch (broadcastInDim S2097152 ![] bcast_S_S2097152 (constantI S_ 32 0#32))) (addi ch (broadcastInDim S2097152 ![] bcast_S_S2097152 (constantI S_ 32 8#32))) ch)⟩,
        ⟨S2097152x1, broadcastInDim S2097152x1 ![0] bcast_S2097152_S2097152x1_0 (select (cmpi .slt rn (broadcastInDim S2097152 ![] bcast_S_S2097152 (constantI S_ 32 0#32))) (addi rn (broadcastInDim S2097152 ![] bcast_S_S2097152 (constantI S_ 32 4096#32))) rn)⟩,
        ⟨S2097152x1, broadcastInDim S2097152x1 ![0] bcast_S2097152_S2097152x1_0 (id (broadcastInDim S2097152 ![] bcast_S_S2097152 (constantI S_ 32 kw)))⟩]
        concatenates_S2097152x1_S2097152x1_S2097152x1_S2097152x1_S2097152x4_d1) upd (ix4 b c r a)
      = if sel (ix1 (first b c r)) = 1#1 ∧ a = k then upd (ix1 (first b c r)) else x (ix4 b c r a) := by
  refine Scatter.scatter_one _ rfl rfl rfl rfl x _ upd b c r a (first b c r) (sel (ix1 (first b c r)) = 1#1 ∧ a = k) fun n => ?_
  pointwise
  have hkw : (id (broadcastInDim S2097152 ![] bcast_S_S2097152 (constantI S_ 32 kw)) (ix1 n)).toInt = ((k.val : Nat) : Int) :=
    (congrArg BitVec.toInt hk).trans (toInt_small _ (by omega))
  have hak : ((k.val : Nat) : Int) = ((a.val : Nat) : Int) ↔ a = k := by rw [Fin.ext_iff]; omega
  rw [hkw, hak]
  by_cases hs : sel (ix1 n) = 1#1
  · obtain ⟨b', c', r', hn, hb, hc, hr⟩ := hsel n hs
    rw [hb, hc, hr, wrap_small _ _ (by omega), wrap_small _ _ (by omega), wrap_small _ _ (by omega),
      toInt_small _ (by omega), toInt_small _ (by omega), toInt_small _ (by omega)]
    constructor
    · rintro ⟨e1, e2, e3, e4⟩
      have hm : n = first b c r := by
        rw [hn, Fin.ext (Int.ofNat.inj e1 : b'.val = b.val), Fin.ext (Int.ofNat.inj e2 : c'.val = c.val),
          Fin.ext (Int.ofNat.inj e3 : r'.val = r.val)]
      exact ⟨hm, hm ▸ hs, e4⟩
    · rintro ⟨hm, -, e4⟩
      obtain ⟨rfl, rfl, rfl⟩ := first_inj (hn.symm.trans hm)
      exact ⟨rfl, rfl, rfl, e4⟩
  · rw [hno n hs]
    constructor
    · rintro ⟨e1, -⟩
      have e8 : (Scalar.select (IntOp.cmpi .slt 8#32 0#32) (IntOp.addi 8#32 8#32) 8#32).toInt = 8 := by decide
      have := b.isLt
      omega
    · rintro ⟨hm, h1, -⟩
      exact absurd (hm ▸ h1) hs

end Cert.Proof.Layer

end
-- ==== Proof.RefGrid.lean ====
/- What the reference's scattered grid holds at one element. -/
module

public import proofs.«01_k».proof.Proof.Layer
public import Idealize.ShloMosaic.Lib.Tactic.CleanTypes
public import Idealize.ShloMosaic.Lib.Routing.OpsSearch

@[expose] public section

noncomputable section

namespace Cert.Proof.RefGrid

open Idealize.ShloMosaic Idealize.ShloMosaic.TcCoe Cert.ReferenceIdeal Cert.ReferenceIdeal.Gen Cert.ReferenceIdeal.Value Cert.Proof.Atoms

variable (V : Valuation τ sig (Elt Ideal))

/-- The table of atoms. -/
def atoms : IVec ⟨2, ![2097152, 5]⟩ 32 := V (Proc.devRef .tc main_arg0)
/-- The table of alternatives' bits. -/
def alts : IVec ⟨2, ![2097152, 4]⟩ 1 := V (Proc.devRef .tc main_arg6)

/-- The scale: one minus the hyperbolic tangent of the weight's opposite, times the temperature. -/
def scale (w : FVec Ideal ⟨1, ![1]⟩ .f32) : EReal := (1 - Ideal.tanh (-(w (ix1 0)))) * Ideal.ofBits .f32 0x43950000#32

/-- The entropy of a residue name: the table's entry of that number, and nothing for a word that is not a number of the table. -/
def entropy (x : BitVec 32) : EReal := if h : x.toNat < 20 then Ideal.ofBits .f32 (lit0 ⟨x.toNat, h⟩) else 0

/-- Whether atom `n` is selected for column `k`: a C-alpha that has the alternative and is not padding. -/
def chosen (k : Fin 4) (n : Fin 2097152) : BitVec 1 :=
  IntOp.andi (IntOp.andi (IntOp.cmpi .eq (atoms V (ix2 n 0)) 1#32) (alts V (ix2 n k))) (IntOp.cmpi .ne (atoms V (ix2 n 1)) 999#32)

theorem v3_at (n : Fin 2097152) : (res_main_v3 V : IVec S2097152 32) (ix1 n) = atoms V (ix2 n 1) := by
  unfold res_main_v3
  clean_types
  pointwise
  rfl

theorem v5_at (n : Fin 2097152) : (res_main_v5 V : IVec S2097152 32) (ix1 n) = atoms V (ix2 n 2) := by
  unfold res_main_v5
  clean_types
  pointwise
  rfl

theorem v7_at (n : Fin 2097152) : (res_main_v7 V : IVec S2097152 32) (ix1 n) = atoms V (ix2 n 3) := by
  unfold res_main_v7
  clean_types
  pointwise
  rfl

theorem v9_at (n : Fin 2097152) : (res_main_v9 V : IVec S2097152 32) (ix1 n) = atoms V (ix2 n 4) := by
  unfold res_main_v9
  clean_types
  pointwise
  rfl

/-- The update of an atom whose residue name is one of the table's: the scale times the name's entropy. -/
theorem v25_at (n : Fin 2097152) (h : (atoms V (ix2 n 1)).toNat < 20) :
    (res_main_v25 V : FVec Ideal S2097152 .f32) (ix1 n) = scale (V (Proc.devRef .tc main_arg7)) * entropy (atoms V (ix2 n 1)) := by
  unfold res_main_v25
  clean_types
  pointwise
  refine congrArg₂ (fun a b : EReal => a * b) rfl ?_
  unfold entropy
  rw [dif_pos h]
  rw [ix1_eq_valueIdx]
  refine (Routing.take_ap _ rfl rfl rfl rfl _ _ n h (by omega) ?_).trans ?_
  · rw [← ix2_eq_valueIdx]
    pointwise
    rw [v3_at]
    refine (Routing.wrap_of_lt _ _ (by omega)).trans ?_
    rw [BitVec.ofNat_toNat, BitVec.setWidth_eq]
  · rw [← ix1_eq_valueIdx]
    refine congrArg (fun q => Ideal.ofBits .f32 (lit0 q)) (Fin.ext ?_)
    show (S20.rowMajor (ix1 _)).val = _
    rw [Shape.rowMajor_val_one]
    rfl

theorem v32_at (n : Fin 2097152) : (res_main_v32 V : IVec S2097152 1) (ix1 n) = chosen V 0 n := by
  unfold res_main_v32 res_main_v11 res_main_v27
  clean_types
  pointwise
  rw [v3_at]
  rfl

theorem v61_at (n : Fin 2097152) : (res_main_v61 V : IVec S2097152 1) (ix1 n) = chosen V 1 n := by
  unfold res_main_v61 res_main_v11 res_main_v27
  clean_types
  pointwise
  rw [v3_at]
  rfl

theorem v90_at (n : Fin 2097152) : (res_main_v90 V : IVec S2097152 1) (ix1 n) = chosen V 2 n := by
  unfold res_main_v90 res_main_v11 res_main_v27
  clean_types
  pointwise
  rw [v3_at]
  rfl

theorem v119_at (n : Fin 2097152) : (res_main_v119 V : IVec S2097152 1) (ix1 n) = chosen V 3 n := by
  unfold res_main_v119 res_main_v11 res_main_v27
  clean_types
  pointwise
  rw [v3_at]
  rfl

theorem v33_at (n : Fin 2097152) : (res_main_v33 V : IVec S2097152 32) (ix1 n) = Scalar.select (chosen V 0 n) (atoms V (ix2 n 2)) 8#32 := by
  unfold res_main_v33
  clean_types
  pointwise [id]
  rw [v32_at, v5_at]

theorem v62_at (n : Fin 2097152) : (res_main_v62 V : IVec S2097152 32) (ix1 n) = Scalar.select (chosen V 1 n) (atoms V (ix2 n 2)) 8#32 := by
  unfold res_main_v62
  clean_types
  pointwise [id]
  rw [v61_at, v5_at]

theorem v91_at (n : Fin 2097152) : (res_main_v91 V : IVec S2097152 32) (ix1 n) = Scalar.select (chosen V 2 n) (atoms V (ix2 n 2)) 8#32 := by
  unfold res_main_v91
  clean_types
  pointwise [id]
  rw [v90_at, v5_at]

theorem v120_at (n : Fin 2097152) : (res_main_v120 V : IVec S2097152 32) (ix1 n) = Scalar.select (chosen V 3 n) (atoms V (ix2 n 2)) 8#32 := by
  unfold res_main_v120
  clean_types
  pointwise [id]
  rw [v119_at, v5_at]

/-- An atom selected for some column is the first of its row, and its words are its place. -/
theorem chosen_place (hA : Good (atoms V)) (k : Fin 4) (n : Fin 2097152) (h : chosen V k n = 1#1) :
    ∃ (b c : Fin 8) (r : Fin 4096), n = first b c r ∧ atoms V (ix2 n 2) = BitVec.ofNat 32 b.val
      ∧ atoms V (ix2 n 4) = BitVec.ofNat 32 c.val ∧ atoms V (ix2 n 3) = BitVec.ofNat 32 r.val := by
  have key : ∀ p q s : BitVec 1, IntOp.andi (IntOp.andi p q) s = 1#1 → p = 1#1 := by decide
  have e := key _ _ _ h
  have e1 : atoms V (ix2 n 0) = 1#32 := beq_iff_eq.1 ((bit_iff _).1 e)
  have e8 := (hA.lead n).1 e1
  have hn := n.isLt
  have hf : n = first ⟨n.val / 262144, by omega⟩ ⟨n.val / 32768 % 8, by omega⟩ ⟨n.val / 8 % 4096, by omega⟩ :=
    Fin.ext (by simp only [first]; omega)
  refine ⟨_, _, _, hf, ?_, ?_, ?_⟩
  · exact (congrArg (fun t => atoms V (ix2 t 2)) hf).trans (hA.batch _ _ _)
  · exact (congrArg (fun t => atoms V (ix2 t 4)) hf).trans (hA.chain _ _ _)
  · exact (congrArg (fun t => atoms V (ix2 t 3)) hf).trans (hA.resnum _ _ _)

/-- A row's first atom is selected for a column exactly when it has the alternative and is not padding. -/
theorem chosen_first (hA : Good (atoms V)) (k : Fin 4) (b c : Fin 8) (r : Fin 4096) :
    chosen V k (first b c r) = 1#1 ↔ alts V (ix2 (first b c r) k) = 1#1 ∧ atoms V (ix2 (first b c r) 1) ≠ 999#32 := by
  have h1 : atoms V (ix2 (first b c r) 0) = 1#32 := (hA.lead _).2 (by simp only [first]; omega)
  have key : ∀ q s : BitVec 1, IntOp.andi (IntOp.andi 1#1 q) s = 1#1 ↔ q = 1#1 ∧ s = 1#1 := by decide
  unfold chosen
  rw [h1, show IntOp.cmpi .eq 1#32 1#32 = 1#1 from rfl, key]
  refine and_congr_right fun _ => ?_
  rw [show IntOp.cmpi .ne (atoms V (ix2 (first b c r) 1)) 999#32 = BitVec.ofBool (atoms V (ix2 (first b c r) 1) != 999#32) from rfl, bit_iff]
  exact bne_iff_ne

/-- What the scattered grid holds at `(b, c, r, a)`. -/
theorem grid_at (hA : Good (atoms V)) (b c : Fin 8) (r : Fin 4096) (a : Fin 4) :
    (res_main_v144 V : FVec Ideal S8x8x4096x4 .f32) (ix4 b c r a)
      = if alts V (ix2 (first b c r) a) = 1#1 then
          scale (V (Proc.devRef .tc main_arg7)) * entropy (atoms V (ix2 (first b c r) 1)) else 0 := by
  have hsel : ∀ (k : Fin 4) (sel : IVec S2097152 1) (bi : IVec S2097152 32), (∀ n, sel (ix1 n) = chosen V k n) →
      (∀ n, bi (ix1 n) = Scalar.select (chosen V k n) (atoms V (ix2 n 2)) 8#32) →
      ∀ n : Fin 2097152, sel (ix1 n) = 1#1 → ∃ (b c : Fin 8) (r : Fin 4096), n = first b c r
      ∧ bi (ix1 n) = BitVec.ofNat 32 b.val ∧ (res_main_v9 V : IVec S2097152 32) (ix1 n) = BitVec.ofNat 32 c.val
      ∧ (res_main_v7 V : IVec S2097152 32) (ix1 n) = BitVec.ofNat 32 r.val := fun k sel bi h1 h2 n hn => by
    rw [h1] at hn
    obtain ⟨b, c, r, p0, p1, p2, p3⟩ := chosen_place V hA k n hn
    refine ⟨b, c, r, p0, ?_, (v9_at V n).trans p2, (v7_at V n).trans p3⟩
    rw [h2, hn]
    exact p1
  have hno : ∀ (k : Fin 4) (sel : IVec S2097152 1) (bi : IVec S2097152 32), (∀ n, sel (ix1 n) = chosen V k n) →
      (∀ n, bi (ix1 n) = Scalar.select (chosen V k n) (atoms V (ix2 n 2)) 8#32) →
      ∀ n : Fin 2097152, sel (ix1 n) ≠ 1#1 → bi (ix1 n) = 8#32 := fun k sel bi h1 h2 n hn => by
    rw [h1] at hn
    rw [h2, ValueIdx.eq_zero_of_ne_one hn]
    rfl
  -- the update of a selected first atom
  have hupd : ∀ (k : Fin 4) (sel : IVec S2097152 1) (z : S2097152.Idx → EReal), (∀ n, sel (ix1 n) = chosen V k n) →
      sel (ix1 (first b c r)) = 1#1 →
      select (α := EReal) (s := S2097152) sel (res_main_v25 V) z (ix1 (first b c r))
        = scale (V (Proc.devRef .tc main_arg7)) * entropy (atoms V (ix2 (first b c r) 1)) := fun k sel z h1 hs => by
    have hc := (chosen_first V hA k b c r).1 ((h1 _).symm.trans hs)
    refine Eq.trans ?_ (v25_at V (first b c r) ((hA.name b c r).resolve_right hc.2))
    show Scalar.select (sel (ix1 (first b c r))) _ _ = _
    rw [hs]
    rfl
  have h999 : atoms V (ix2 (first b c r) 1) = 999#32 → entropy (atoms V (ix2 (first b c r) 1)) = 0 := fun h => by
    rw [h]
    exact dif_neg (by decide)
  have hit : ∀ {k : Fin 4} (sel : IVec S2097152 1), (∀ n, sel (ix1 n) = chosen V k n) → sel (ix1 (first b c r)) = 1#1 → a = k →
      (if alts V (ix2 (first b c r) a) = 1#1 then
          scale (V (Proc.devRef .tc main_arg7)) * entropy (atoms V (ix2 (first b c r) 1)) else 0)
        = scale (V (Proc.devRef .tc main_arg7)) * entropy (atoms V (ix2 (first b c r) 1)) := fun {k} sel h1 hs ha => by
    have hc := (chosen_first V hA k b c r).1 ((h1 _).symm.trans hs)
    rw [ha]
    exact if_pos hc.1
  unfold res_main_v144 res_main_v115
  refine (Layer.layer _ (res_main_v120 V) (res_main_v9 V) (res_main_v7 V) 3 _ rfl _ (res_main_v119 V)
    (hsel 3 _ _ (v119_at V) (v120_at V)) (hno 3 _ _ (v119_at V) (v120_at V)) b c r a).trans ?_
  by_cases h3 : (res_main_v119 V : IVec S2097152 1) (ix1 (first b c r)) = 1#1 ∧ a = 3
  · exact (if_pos h3).trans ((hupd 3 _ _ (v119_at V) h3.1).trans (hit _ (v119_at V) h3.1 h3.2).symm)
  refine (if_neg h3).trans ?_
  refine (Layer.layer _ (res_main_v91 V) (res_main_v9 V) (res_main_v7 V) 2 _ rfl _ (res_main_v90 V)
    (hsel 2 _ _ (v90_at V) (v91_at V)) (hno 2 _ _ (v90_at V) (v91_at V)) b c r a).trans ?_
  by_cases h2 : (res_main_v90 V : IVec S2097152 1) (ix1 (first b c r)) = 1#1 ∧ a = 2
  · exact (if_pos h2).trans ((hupd 2 _ _ (v90_at V) h2.1).trans (hit _ (v90_at V) h2.1 h2.2).symm)
  refine (if_neg h2).trans ?_
  refine (Layer.layer _ (res_main_v62 V) (res_main_v9 V) (res_main_v7 V) 1 _ rfl _ (res_main_v61 V)
    (hsel 1 _ _ (v61_at V) (v62_at V)) (hno 1 _ _ (v61_at V) (v62_at V)) b c r a).trans ?_
  by_cases h1 : (res_main_v61 V : IVec S2097152 1) (ix1 (first b c r)) = 1#1 ∧ a = 1
  · exact (if_pos h1).trans ((hupd 1 _ _ (v61_at V) h1.1).trans (hit _ (v61_at V) h1.1 h1.2).symm)
  refine (if_neg h1).trans ?_
  refine (Layer.layer _ (res_main_v33 V) (res_main_v9 V) (res_main_v7 V) 0 _ rfl _ (res_main_v32 V)
    (hsel 0 _ _ (v32_at V) (v33_at V)) (hno 0 _ _ (v32_at V) (v33_at V)) b c r a).trans ?_
  by_cases h0 : (res_main_v32 V : IVec S2097152 1) (ix1 (first b c r)) = 1#1 ∧ a = 0
  · exact (if_pos h0).trans ((hupd 0 _ _ (v32_at V) h0.1).trans (hit _ (v32_at V) h0.1 h0.2).symm)
  refine (if_neg h0).trans ?_
  pointwise
  refine (ite_eq_right_iff.2 fun ha => ?_).symm
  by_cases hn : atoms V (ix2 (first b c r) 1) = 999#32
  · rw [h999 hn, mul_zero]
  · have hc := (chosen_first V hA a b c r).2 ⟨ha, hn⟩
    fin_cases a
    · exact absurd ⟨(v32_at V _).trans hc, rfl⟩ h0
    · exact absurd ⟨(v61_at V _).trans hc, rfl⟩ h1
    · exact absurd ⟨(v90_at V _).trans hc, rfl⟩ h2
    · exact absurd ⟨(v119_at V _).trans hc, rfl⟩ h3

end Cert.Proof.RefGrid

end
-- ==== Proof.RefValue.lean ====
/- What the reference's result holds at one element. -/
module

public import proofs.«01_k».proof.Proof.RefGrid

@[expose] public section

noncomputable section

namespace Cert.Proof.RefValue

open Idealize.ShloMosaic Idealize.ShloMosaic.TcCoe Cert.ReferenceIdeal Cert.ReferenceIdeal.Gen Cert.ReferenceIdeal.Value Cert.Proof.Atoms

/-- The choice between the entropy term `l`, the same weighted by accessibility `f`, and the energy `e` of the rest: the first
    where it is below the energy, else the energy where the weighted term is below it, else the weighted term. -/
def pick (l f e : EReal) : EReal := if l < e then l else if f < e then e else f

/-- The energy of a residue: the size of the sum of its four hydrogen bonds, its van der Waals term, its electrostatic term and
    its four clashes. -/
def energy (hb cl : FVec Ideal ⟨5, ![8, 8, 4096, 4, 4]⟩ .f32) (vd el : FVec Ideal ⟨5, ![8, 8, 4096, 4, 1]⟩ .f32)
    (b c : Fin 8) (r : Fin 4096) (a : Fin 4) : EReal :=
  FloatOps.absf (F := Ideal) (φ := .f32)
    ((∑ x, hb (ix5 b c r a x)) + vd (ix5 b c r a 0) + el (ix5 b c r a 0) + ∑ x, cl (ix5 b c r a x) : EReal)

/-- The entropy term: the scale times the entropy of the residue's name where its first atom has the alternative, else nothing. -/
def term (A : IVec ⟨2, ![2097152, 5]⟩ 32) (alt : IVec ⟨2, ![2097152, 4]⟩ 1) (w : FVec Ideal ⟨1, ![1]⟩ .f32)
    (b c : Fin 8) (r : Fin 4096) (a : Fin 4) : EReal :=
  if alt (ix2 (first b c r) a) = 1#1 then RefGrid.scale w * RefGrid.entropy (A (ix2 (first b c r) 1)) else 0

/-- The whole result at one element, as a function of the argument arrays. -/
def value (A : IVec ⟨2, ![2097152, 5]⟩ 32) (sa : FVec Ideal ⟨4, ![8, 8, 4096, 4]⟩ .f32) (hb : FVec Ideal ⟨5, ![8, 8, 4096, 4, 4]⟩ .f32)
    (vd el : FVec Ideal ⟨5, ![8, 8, 4096, 4, 1]⟩ .f32) (cl : FVec Ideal ⟨5, ![8, 8, 4096, 4, 4]⟩ .f32) (alt : IVec ⟨2, ![2097152, 4]⟩ 1)
    (w : FVec Ideal ⟨1, ![1]⟩ .f32) (b c : Fin 8) (r : Fin 4096) (a : Fin 4) : EReal :=
  pick (term A alt w b c r a) (term A alt w b c r a * max (sa (ix4 b c r a)) 0) (energy hb cl vd el b c r a)

/-- The printed selects, read at an index, are `pick`. -/
theorem pick_at (g e s : FVec Ideal S8x8x4096x4 .f32) (b c : Fin 8) (r : Fin 4096) (a : Fin 4) :
    select (andi (noti (cmpf .olt g e)) (cmpf .olt (mulf g (maximumf s (broadcastInDim S8x8x4096x4 ![] bcast_S_S8x8x4096x4 (constant S_ .f32 0x00000000#32)))) e)) e
      (select (cmpf .olt g e) g (mulf g (maximumf s (broadcastInDim S8x8x4096x4 ![] bcast_S_S8x8x4096x4 (constant S_ .f32 0x00000000#32))))) (ix4 b c r a)
      = pick (g (ix4 b c r a)) (g (ix4 b c r a) * max (s (ix4 b c r a)) 0) (e (ix4 b c r a)) := by
  pointwise
  unfold pick
  generalize g (ix4 b c r a) * max (s (ix4 b c r a)) 0 = f
  by_cases h : g (ix4 b c r a) < e (ix4 b c r a) <;> by_cases k : f < e (ix4 b c r a) <;> simp [h, k, IntOp.andi, Scalar.select]

variable (V : Valuation τ sig (Elt Ideal))

theorem v154_at (b c : Fin 8) (r : Fin 4096) (a : Fin 4) :
    (res_main_v154 V : FVec Ideal S8x8x4096x4 .f32) (ix4 b c r a)
      = energy (V (Proc.devRef .tc main_arg2)) (V (Proc.devRef .tc main_arg5)) (V (Proc.devRef .tc main_arg3)) (V (Proc.devRef .tc main_arg4)) b c r a := by
  unfold res_main_v154
  clean_types
  pointwise
  rfl

/-- The reference's result at `(b, c, r, a)`. -/
theorem result_at (hA : Good (RefGrid.atoms V)) (b c : Fin 8) (r : Fin 4096) (a : Fin 4) :
   (select (α := EReal) (s := S8x8x4096x4) (andi (noti (res_main_v155 V)) (cmpf .olt (res_main_v146 V) (res_main_v154 V))) (res_main_v154 V)
      (select (res_main_v155 V) (res_main_v144 V) (res_main_v146 V))) (ix4 b c r a)
     = value (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7)) b c r a := by
  refine (pick_at (res_main_v144 V) (res_main_v154 V) (V (Proc.devRef .tc main_arg1)) b c r a).trans ?_
  rw [v154_at, RefGrid.grid_at V hA]
  rfl

end Cert.Proof.RefValue

end
-- ==== Proof.Stack.lean ====
/- The kernel's stacking of the atoms' rows and its product with the selection matrix, read at an element. -/
module

public import proofs.«01_k».proof.Proof.Gen.KernelIdeal.Frame
public import proofs.«01_k».proof.Proof.RefValue
public import Idealize.ShloMosaic.Lib.Pipeline.Value

@[expose] public section

noncomputable section

namespace Cert.Proof.Stack

open Idealize.ShloMosaic Cert.KernelIdeal Cert.KernelIdeal.Gen

variable (x0 : Vec Ideal S5x32768 .i32) (x1 : Vec Ideal S4x32768 .i8) (x2 x3 : Vec Ideal S1x1x4x4x4096 .f32) (x4 : Vec Ideal S1x1x4x4096 .f32)
  (x5 x6 : Vec Ideal S1x1x4x1x4096 .f32) (x7 : Vec Ideal S512x64 .bf16) (x8 : Vec Ideal S1x1 .f32)

/-- The eight rows the kernel stacks: the residue names, the four alternatives and three rows of zeros. -/
def merged : FVec Ideal S8x32768 .bf16 := k0_pay3 (F := Ideal) (View.ld x0 r0_1) (View.ld x1 r0_2)

/-- The first of the eight rows is the residue names, as numbers. -/
theorem merged_name (n : Fin 32768) : merged x0 x1 (ix2 0 n) = FloatOps.sitofp (F := Ideal) .bf16 (x0 (ix2 1 n)) := by
  unfold merged
  pointwise [k0_pay3]

/-- The next four are the alternatives' words, as numbers. -/
theorem merged_alt (a : Fin 4) (n : Fin 32768) :
    merged x0 x1 (ix2 ⟨a.val + 1, by omega⟩ n) = FloatOps.sitofp (F := Ideal) .bf16 (x1 (ix2 a n)) := by
  unfold merged
  pointwise [k0_pay3]
  have ha := a.isLt
  rw [dif_neg (by omega), dif_pos (by omega)]
  rfl

theorem chunk_slices (t : Fin 64) : S8x32768.Slices ![0, 512 * t.val] S8x512 := by
  refine ⟨rfl, fun a => ?_⟩
  match a with
  | ⟨0, _⟩ => exact Nat.le_of_eq rfl
  | ⟨1, _⟩ => show 512 * t.val + 512 ≤ 32768; omega

/-- The sixty-four column blocks of the eight rows, 512 columns each, that the kernel stacks. -/
def chunks : List ((s : Shape) × (s.Idx → EReal)) :=
  List.ofFn fun t : Fin 64 => ⟨S8x512, extractStridedSlice S8x512 ![0, 512 * t.val] (merged x0 x1) (chunk_slices t)⟩

/-- The stack at row `8 t + k`: row `k` of block `t`. -/
theorem stacked_at (h) (t : Fin 64) (k : Fin 8) (i : Fin 512) :
    concatenate S512x512 0 (chunks x0 x1) h (ix2 ⟨8 * t.val + k.val, by omega⟩ i) = merged x0 x1 (ix2 k ⟨512 * t.val + i.val, by omega⟩) := by
  refine (concatenate_ofFn_apply (s₁ := S8x512) (t := S512x512) 0 _ h rfl 8 rfl _ t ?_ (ix2 k i) ?_ ?_).trans ?_
  · show (8 * t.val + k.val) / 8 = t.val
    omega
  · show k.val = (8 * t.val + k.val) % 8
    omega
  · intro b hb
    match b with
    | ⟨0, _⟩ => exact absurd rfl hb
    | ⟨1, _⟩ => rfl
  · pointwise

/-- The product with the selection matrix is that of the stack of blocks. -/
theorem product_eq : ∃ h, k0_pay166 (F := Ideal) x0 x1 x2 x3 x4 x5 x6 x7 x8
    = matmul dot_S512x512_S512x64_S512x64_1_0_0_1_n_n none
        (concatenate S512x512 0 (chunks x0 x1) h : FVec Ideal S512x512 .bf16) (k0_pay2 (F := Ideal) (View.ld x7 r0_0))
        (constant S512x64 .f32 0x00000000#32) := ⟨_, rfl⟩

/-- The product at `(8 t + k, j)`, with the matrix that selects every eighth column: row `k` of the eight rows at column `512 t + 8 j`. -/
theorem product_at (h7 : ∀ (i : Fin 512) (j : Fin 64), x7 (ix2 i j) = if i.val = 8 * j.val then (1 : EReal) else 0)
    (t : Fin 64) (k : Fin 8) (j : Fin 64) :
    k0_pay166 (F := Ideal) x0 x1 x2 x3 x4 x5 x6 x7 x8 (ix2 ⟨8 * t.val + k.val, by omega⟩ j)
      = merged x0 x1 (ix2 k ⟨512 * t.val + 8 * j.val, by omega⟩) := by
  obtain ⟨h, e⟩ := product_eq x0 x1 x2 x3 x4 x5 x6 x7 x8
  rw [e]
  generalize hS : (concatenate S512x512 0 (chunks x0 x1) h : FVec Ideal S512x512 .bf16) = S
  pointwise [k0_pay2]
  rw [Finset.sum_eq_single (⟨8 * j.val, by omega⟩ : Fin 512)]
  · rw [h7, if_pos rfl, mul_one, ← hS]
    exact stacked_at x0 x1 h t k ⟨8 * j.val, by omega⟩
  · intro i _ hi
    rw [h7, if_neg (fun q => hi (Fin.ext q)), mul_zero]
  · intro hi
    exact absurd (Finset.mem_univ _) hi

theorem name_slices (t : Fin 64) : S512x64.Slices ![8 * t.val, 0] S1x64 := by
  refine ⟨rfl, fun a => ?_⟩
  match a with
  | ⟨0, _⟩ => show 8 * t.val + 1 ≤ 512; omega
  | ⟨1, _⟩ => exact Nat.le_of_eq rfl

theorem alt_slices (t : Fin 64) : S512x64.Slices ![8 * t.val + 1, 0] S4x64 := by
  refine ⟨rfl, fun a => ?_⟩
  match a with
  | ⟨0, _⟩ => show 8 * t.val + 1 + 4 ≤ 512; omega
  | ⟨1, _⟩ => exact Nat.le_of_eq rfl

/-- The residue names' rows of the product, block after block. -/
def names (P : S512x64.Idx → EReal) : List ((s : Shape) × (s.Idx → EReal)) :=
  List.ofFn fun t : Fin 64 => ⟨S1x64, extractStridedSlice S1x64 ![8 * t.val, 0] P (name_slices t)⟩

/-- The alternatives' rows of the product, block after block. -/
def altRows (P : S512x64.Idx → EReal) : List ((s : Shape) × (s.Idx → EReal)) :=
  List.ofFn fun t : Fin 64 => ⟨S4x64, extractStridedSlice S4x64 ![8 * t.val + 1, 0] P (alt_slices t)⟩

/-- The names' rows one after another, at column `64 t + j`. -/
theorem names_at (P : S512x64.Idx → EReal) (h) (t : Fin 64) (j : Fin 64) :
    concatenate S1x4096 1 (names P) h (ix2 0 ⟨64 * t.val + j.val, by omega⟩) = P (ix2 ⟨8 * t.val, by omega⟩ j) := by
  refine (concatenate_ofFn_apply (s₁ := S1x64) (t := S1x4096) 1 _ h rfl 64 rfl _ t ?_ (ix2 0 j) ?_ ?_).trans ?_
  · show (64 * t.val + j.val) / 64 = t.val
    omega
  · show j.val = (64 * t.val + j.val) % 64
    omega
  · intro b hb
    match b with
    | ⟨0, _⟩ => rfl
    | ⟨1, _⟩ => exact absurd rfl hb
  · pointwise

/-- The alternatives' rows one after another, at row `a` and column `64 t + j`. -/
theorem altRows_at (P : S512x64.Idx → EReal) (h) (a : Fin 4) (t : Fin 64) (j : Fin 64) :
    concatenate S4x4096 1 (altRows P) h (ix2 a ⟨64 * t.val + j.val, by omega⟩) = P (ix2 ⟨8 * t.val + (a.val + 1), by omega⟩ j) := by
  refine (concatenate_ofFn_apply (s₁ := S4x64) (t := S4x4096) 1 _ h rfl 64 rfl _ t ?_ (ix2 a j) ?_ ?_).trans ?_
  · show (64 * t.val + j.val) / 64 = t.val
    omega
  · show j.val = (64 * t.val + j.val) % 64
    omega
  · intro b hb
    match b with
    | ⟨0, _⟩ => rfl
    | ⟨1, _⟩ => exact absurd rfl hb
  · pointwise
    exact congrArg (fun q => P (ix2 q j)) (Fin.ext (by show 8 * t.val + 1 + a.val = 8 * t.val + (a.val + 1); omega))

end Cert.Proof.Stack

end
-- ==== Proof.Decoded.lean ====
/- The residue names and the alternatives as the kernel's body recovers them. -/
module

public import proofs.«01_k».proof.Proof.Stack

@[expose] public section

noncomputable section

namespace Cert.Proof.Decoded

open Idealize.ShloMosaic Cert.KernelIdeal Cert.KernelIdeal.Gen Cert.Proof.Stack

variable (x0 : Vec Ideal S5x32768 .i32) (x1 : Vec Ideal S4x32768 .i8) (x2 x3 : Vec Ideal S1x1x4x4x4096 .f32) (x4 : Vec Ideal S1x1x4x4096 .f32)
  (x5 x6 : Vec Ideal S1x1x4x1x4096 .f32) (x7 : Vec Ideal S512x64 .bf16) (x8 : Vec Ideal S1x1 .f32)

theorem names_cat (P : S512x64.Idx → EReal) : Shape.Concatenates ((names P).map (·.1)) S1x4096 1 :=
  (by decide : Shape.Concatenates (List.ofFn fun _ : Fin 64 => S1x64) S1x4096 1)

theorem altRows_cat (P : S512x64.Idx → EReal) : Shape.Concatenates ((altRows P).map (·.1)) S4x4096 1 :=
  (by decide : Shape.Concatenates (List.ofFn fun _ : Fin 64 => S4x64) S4x4096 1)

/-- The body's row of residue names is the names' rows of the product one after another. -/
theorem name_eq : k0_pay167 (F := Ideal) x0 x1 x2 x3 x4 x5 x6 x7 x8
    = shapeCast S4096 (concatenate S1x4096 1 (names (k0_pay166 (F := Ideal) x0 x1 x2 x3 x4 x5 x6 x7 x8)) (names_cat _)) shapeCasts_S1x4096_S4096 := rfl

/-- The body's rows of alternatives, as a function of the product. -/
def altOf (P : FVec Ideal S512x64 .f32) : FVec Ideal S4x4096 .f32 :=
  k0_pay109 (F := Ideal) P (k0_pay81 P) (k0_pay82 P) (k0_pay83 P) (k0_pay84 P) (k0_pay85 P) (k0_pay86 P) (k0_pay87 P) (k0_pay88 P) (k0_pay89 P) (k0_pay90 P) (k0_pay91 P) (k0_pay92 P) (k0_pay93 P) (k0_pay94 P) (k0_pay95 P) (k0_pay96 P) (k0_pay97 P) (k0_pay98 P) (k0_pay99 P) (k0_pay100 P) (k0_pay101 P) (k0_pay102 P) (k0_pay103 P) (k0_pay104 P) (k0_pay105 P) (k0_pay106 P) (k0_pay107 P) (k0_pay108 P)

theorem altOf_eq (P : FVec Ideal S512x64 .f32) : altOf P = concatenate S4x4096 1 (altRows P) (altRows_cat P) := rfl

/-- The recovered residue name of residue `r`: the word of its first atom, as a number. -/
theorem name_at (h7 : ∀ (i : Fin 512) (j : Fin 64), x7 (ix2 i j) = if i.val = 8 * j.val then (1 : EReal) else 0) (r : Fin 4096) :
    k0_pay167 (F := Ideal) x0 x1 x2 x3 x4 x5 x6 x7 x8 (ix1 r) = FloatOps.sitofp (F := Ideal) .bf16 (x0 (ix2 1 ⟨8 * r.val, by omega⟩)) := by
  rw [name_eq]
  pointwise
  have hr : r = ⟨64 * (r.val / 64) + r.val % 64, by omega⟩ := Fin.ext (by simp only; omega)
  refine (congrArg (fun q => concatenate S1x4096 1 (names _) (names_cat _) (ix2 0 q)) hr).trans ?_
  refine (names_at _ _ ⟨r.val / 64, by omega⟩ ⟨r.val % 64, by omega⟩).trans ?_
  refine (product_at x0 x1 x2 x3 x4 x5 x6 x7 x8 h7 ⟨r.val / 64, by omega⟩ 0 ⟨r.val % 64, by omega⟩).trans ?_
  rw [merged_name]
  exact congrArg (fun q => FloatOps.sitofp (F := Ideal) .bf16 (x0 (ix2 1 q))) (Fin.ext (by simp only; omega))

/-- The recovered alternative `a` of residue `r`: the word of its first atom, as a number. -/
theorem alt_at (h7 : ∀ (i : Fin 512) (j : Fin 64), x7 (ix2 i j) = if i.val = 8 * j.val then (1 : EReal) else 0) (a : Fin 4) (r : Fin 4096) :
    altOf (k0_pay166 (F := Ideal) x0 x1 x2 x3 x4 x5 x6 x7 x8) (ix2 a r)
      = FloatOps.sitofp (F := Ideal) .bf16 (x1 (ix2 a ⟨8 * r.val, by omega⟩)) := by
  rw [altOf_eq]
  have hr : r = ⟨64 * (r.val / 64) + r.val % 64, by omega⟩ := Fin.ext (by simp only; omega)
  refine (congrArg (fun q => concatenate S4x4096 1 (altRows _) (altRows_cat _) (ix2 a q)) hr).trans ?_
  refine (altRows_at _ _ a ⟨r.val / 64, by omega⟩ ⟨r.val % 64, by omega⟩).trans ?_
  refine (product_at x0 x1 x2 x3 x4 x5 x6 x7 x8 h7 ⟨r.val / 64, by omega⟩ ⟨a.val + 1, by omega⟩ ⟨r.val % 64, by omega⟩).trans ?_
  rw [merged_alt]
  exact congrArg (fun q => FloatOps.sitofp (F := Ideal) .bf16 (x1 (ix2 a q))) (Fin.ext (by simp only; omega))

end Cert.Proof.Decoded

end
-- ==== Proof.Entropy.lean ====
/- The body's chain of comparisons with the numbers of the residue names, as the table that the reference reads. -/
module

public import proofs.«01_k».proof.Proof.Decoded

@[expose] public section

noncomputable section

namespace Cert.Proof.Entropy

open Idealize.ShloMosaic Cert.KernelIdeal Cert.KernelIdeal.Gen

/-! Each key of the chain is the number of a residue name. -/

theorem key2 : Ideal.ofBits .f32 0x40000000#32 = ((2 : ℝ) : EReal) := by
  simp [Ideal.ofBits, Ideal.ieee, -EReal.coe_mul]; norm_num
theorem key3 : Ideal.ofBits .f32 0x40400000#32 = ((3 : ℝ) : EReal) := by
  simp [Ideal.ofBits, Ideal.ieee, -EReal.coe_mul]; norm_num
theorem key4 : Ideal.ofBits .f32 0x40800000#32 = ((4 : ℝ) : EReal) := by
  simp [Ideal.ofBits, Ideal.ieee, -EReal.coe_mul]; norm_num
theorem key6 : Ideal.ofBits .f32 0x40C00000#32 = ((6 : ℝ) : EReal) := by
  simp [Ideal.ofBits, Ideal.ieee, -EReal.coe_mul]; norm_num
theorem key7 : Ideal.ofBits .f32 0x40E00000#32 = ((7 : ℝ) : EReal) := by
  simp [Ideal.ofBits, Ideal.ieee, -EReal.coe_mul]; norm_num
theorem key8 : Ideal.ofBits .f32 0x41000000#32 = ((8 : ℝ) : EReal) := by
  simp [Ideal.ofBits, Ideal.ieee, -EReal.coe_mul]; norm_num
theorem key9 : Ideal.ofBits .f32 0x41100000#32 = ((9 : ℝ) : EReal) := by
  simp [Ideal.ofBits, Ideal.ieee, -EReal.coe_mul]; norm_num
theorem key10 : Ideal.ofBits .f32 0x41200000#32 = ((10 : ℝ) : EReal) := by
  simp [Ideal.ofBits, Ideal.ieee, -EReal.coe_mul]; norm_num
theorem key11 : Ideal.ofBits .f32 0x41300000#32 = ((11 : ℝ) : EReal) := by
  simp [Ideal.ofBits, Ideal.ieee, -EReal.coe_mul]; norm_num
theorem key12 : Ideal.ofBits .f32 0x41400000#32 = ((12 : ℝ) : EReal) := by
  simp [Ideal.ofBits, Ideal.ieee, -EReal.coe_mul]; norm_num
theorem key13 : Ideal.ofBits .f32 0x41500000#32 = ((13 : ℝ) : EReal) := by
  simp [Ideal.ofBits, Ideal.ieee, -EReal.coe_mul]; norm_num
theorem key14 : Ideal.ofBits .f32 0x41600000#32 = ((14 : ℝ) : EReal) := by
  simp [Ideal.ofBits, Ideal.ieee, -EReal.coe_mul]; norm_num
theorem key15 : Ideal.ofBits .f32 0x41700000#32 = ((15 : ℝ) : EReal) := by
  simp [Ideal.ofBits, Ideal.ieee, -EReal.coe_mul]; norm_num
theorem key16 : Ideal.ofBits .f32 0x41800000#32 = ((16 : ℝ) : EReal) := by
  simp [Ideal.ofBits, Ideal.ieee, -EReal.coe_mul]; norm_num
theorem key17 : Ideal.ofBits .f32 0x41880000#32 = ((17 : ℝ) : EReal) := by
  simp [Ideal.ofBits, Ideal.ieee, -EReal.coe_mul]; norm_num
theorem key18 : Ideal.ofBits .f32 0x41900000#32 = ((18 : ℝ) : EReal) := by
  simp [Ideal.ofBits, Ideal.ieee, -EReal.coe_mul]; norm_num
theorem key19 : Ideal.ofBits .f32 0x41980000#32 = ((19 : ℝ) : EReal) := by
  simp [Ideal.ofBits, Ideal.ieee, -EReal.coe_mul]; norm_num

/-- One half is the real number that its pattern says. -/
theorem half : Ideal.ofBits .f32 0x3F000000#32 = ((1 / 2 : ℝ) : EReal) := by
  simp [Ideal.ofBits, Ideal.ieee, -EReal.coe_mul]; norm_num

/-- The part of the chain for the names up to 14. -/
def early (x : EReal) : EReal :=
  if x = Ideal.ofBits .f32 0x41600000#32 then Ideal.ofBits .f32 0x3BE8A71E#32 else
  if x = Ideal.ofBits .f32 0x41500000#32 then Ideal.ofBits .f32 0x3BDCA304#32 else
  if x = Ideal.ofBits .f32 0x41400000#32 then Ideal.ofBits .f32 0x3A83126F#32 else
  if x = Ideal.ofBits .f32 0x41300000#32 then Ideal.ofBits .f32 0x3B30F27C#32 else
  if x = Ideal.ofBits .f32 0x41200000#32 then Ideal.ofBits .f32 0x3BA71DE7#32 else
  if x = Ideal.ofBits .f32 0x41100000#32 then Ideal.ofBits .f32 0x3B75C28F#32 else
  if x = Ideal.ofBits .f32 0x41000000#32 then Ideal.ofBits .f32 0x3BF1645C#32 else
  if x = Ideal.ofBits .f32 0x40E00000#32 then Ideal.ofBits .f32 0x3B75C28F#32 else
  if x = Ideal.ofBits .f32 0x40C00000#32 then Ideal.ofBits .f32 0x3B5844D0#32 else
  if x = Ideal.ofBits .f32 0x40800000#32 then Ideal.ofBits .f32 0x3B403C9C#32 else
  if x = Ideal.ofBits .f32 0x40400000#32 then Ideal.ofBits .f32 0x3BB43958#32 else
  if x = Ideal.ofBits .f32 0x40000000#32 then Ideal.ofBits .f32 0x3B05411D#32 else
  if x = 1 then Ideal.ofBits .f32 0x3B75C28F#32 else
  0

/-- The part of the chain for the names from 15, over the value `d` of the rest. -/
def late (x d : EReal) : EReal :=
  if x = Ideal.ofBits .f32 0x41980000#32 then Ideal.ofBits .f32 0x3B5844D0#32 else
  if x = Ideal.ofBits .f32 0x41900000#32 then Ideal.ofBits .f32 0x3B53E5C6#32 else
  if x = Ideal.ofBits .f32 0x41880000#32 then Ideal.ofBits .f32 0x3ADA752C#32 else
  if x = Ideal.ofBits .f32 0x41800000#32 then Ideal.ofBits .f32 0x3B05411D#32 else
  if x = Ideal.ofBits .f32 0x41700000#32 then Ideal.ofBits .f32 0x3B077179#32 else
  d

/-- Over a word that is one of the table's numbers or the padding's, the chain is the table. -/
theorem chain (x : BitVec 32) (h : x.toNat < 20 ∨ x = 999#32) :
    late ((x.toInt : ℝ) : EReal) (early ((x.toInt : ℝ) : EReal)) = RefGrid.entropy x := by
  have e : ∃ k : ℕ, (k < 20 ∨ k = 999) ∧ x = BitVec.ofNat 32 k := by
    rcases h with h | h
    · exact ⟨x.toNat, Or.inl h, by simp⟩
    · exact ⟨999, Or.inr rfl, h⟩
  obtain ⟨k, hk, rfl⟩ := e
  have t : (BitVec.ofNat 32 k).toInt = (k : ℤ) := Layer.toInt_small k (by omega)
  unfold late early
  rw [t]
  simp only [key2, key3, key4, key6, key7, key8, key9, key10, key11, key12, key13, key14, key15, key16, key17, key18, key19, EReal.coe_eq_coe_iff, Int.cast_natCast]
  rcases hk with hk | rfl
  · interval_cases k <;> norm_num [RefGrid.entropy] <;> first | rfl | exact Ideal.ofBits_zero_f32.symm
  · norm_num [RefGrid.entropy]

/-- The body's row of entropies, as a function of its row of residue names. -/
def rowOf (n : FVec Ideal S4096 .f32) : FVec Ideal S4096 .f32 :=
  k0_pay119 (F := Ideal) n (k0_pay116 n) (k0_pay117 n) (k0_pay118 (F := Ideal))

/-- The row's entry is the first part of the chain at the name. -/
theorem row_at (n : FVec Ideal S4096 .f32) (r : Fin 4096) : rowOf n (ix1 r) = early (n (ix1 r)) := by
  unfold rowOf early
  pointwise [k0_pay119, k0_pay116, k0_pay117, k0_pay118]

end Cert.Proof.Entropy

end
-- ==== Proof.Body.lean ====
/- What the kernel's body stores for one residue and one alternative. -/
module

public import proofs.«01_k».proof.Proof.Entropy

@[expose] public section

noncomputable section

namespace Cert.Proof.Body

open Idealize.ShloMosaic Cert.KernelIdeal Cert.KernelIdeal.Gen Cert.Proof.Stack Cert.Proof.Decoded Cert.Proof.Entropy
open Cert.Proof.RefValue (pick)

variable (x0 : Vec Ideal S5x32768 .i32) (x1 : Vec Ideal S4x32768 .i8) (x2 x3 : Vec Ideal S1x1x4x4x4096 .f32) (x4 : Vec Ideal S1x1x4x4096 .f32)
  (x5 x6 : Vec Ideal S1x1x4x1x4096 .f32) (x7 : Vec Ideal S512x64 .bf16) (x8 : Vec Ideal S1x1 .f32)

/-- The body's energy of a residue: the size of the sum of its hydrogen bonds, clashes and two further terms. -/
theorem energy_at (a : Fin 4) (r : Fin 4096) :
    k0_pay114 (F := Ideal) (k0_pay111 (View.ld x3 r0_3)) (k0_pay112 (View.ld x2 r0_3)) (k0_pay113 (View.ld x2 r0_3)) (View.ld x5 r0_4) (View.ld x6 r0_4) (ix2 a r)
      = FloatOps.absf (F := Ideal) (φ := .f32)
          ((∑ x, x2 (ix5 0 0 a x r)) + x5 (ix5 0 0 a 0 r) + x6 (ix5 0 0 a 0 r) + ∑ x, x3 (ix5 0 0 a x r) : EReal) := by
  rw [Fin.sum_univ_four, Fin.sum_univ_four]
  pointwise [k0_pay114, k0_pay111, k0_pay112, k0_pay113, k0_pay110]
  congr 1
  abel

/-- The body's entropy term, as a function of the scale, the name, the alternative and the first part of the chain. -/
def lower (w n t v : EReal) : EReal := if Ideal.ofBits .f32 0x3F000000#32 < t then w * late n v else 0

/-- The last part of the body at an element. -/
theorem last_at (n : FVec Ideal S4096 .f32) (t e : FVec Ideal S4x4096 .f32) (w : EReal) (v : FVec Ideal S4096 .f32) (a : Fin 4) (r : Fin 4096) :
    k0_pay122 (F := Ideal) n t e w v (k0_pay120 n) (k0_pay121 (F := Ideal)) (View.ld x4 r0_6) (ix2 a r)
      = pick (lower w (n (ix1 r)) (t (ix2 a r)) (v (ix1 r))) (lower w (n (ix1 r)) (t (ix2 a r)) (v (ix1 r)) * max (x4 (ix4 0 0 a r)) 0) (e (ix2 a r)) := by
  unfold pick lower late
  pointwise [k0_pay122, k0_pay120, k0_pay121]

/-- The scale that the body reads. -/
theorem scale_at : k0_pay115 (F := Ideal) (View.ld x8 r0_5) = x8 (ix2 0 0) := by
  pointwise [k0_pay115]

/-- A store of the rows under two unit axes. -/
theorem unit_at (v : FVec Ideal S4x4096 .f32) (a : Fin 4) (r : Fin 4096) : k0_pay1 (F := Ideal) v (ix4 0 0 a r) = v (ix2 a r) := by
  pointwise [k0_pay1]

/-- The entropy term at a residue: the scale times the table's entry at the residue's name where the alternative's word is one. -/
theorem lower_eq (w : EReal) (x : BitVec 32) (y : BitVec 1) (h : x.toNat < 20 ∨ x = 999#32) :
    lower w (FloatOps.sitofp (F := Ideal) .bf16 x) (FloatOps.sitofp (F := Ideal) .bf16 (y.setWidth 8)) (early (FloatOps.sitofp (F := Ideal) .bf16 x))
      = if y = 1#1 then w * RefGrid.entropy x else 0 := by
  unfold lower
  rw [show late (FloatOps.sitofp (F := Ideal) .bf16 x) (early (FloatOps.sitofp (F := Ideal) .bf16 x)) = RefGrid.entropy x from chain x h, half,
    show FloatOps.sitofp (F := Ideal) .bf16 (y.setWidth 8) = ((((y.setWidth 8).toInt : ℤ) : ℝ) : EReal) from rfl]
  refine if_congr ?_ rfl rfl
  rw [EReal.coe_lt_coe_iff]
  have c : y = 0#1 ∨ y = 1#1 := by
    rcases Nat.lt_or_ge y.toNat 1 with q | q
    · exact Or.inl (BitVec.eq_of_toNat_eq (by simp; omega))
    · exact Or.inr (BitVec.eq_of_toNat_eq (by have := y.isLt; simp; omega))
  rcases c with rfl | rfl
  · norm_num
  · norm_num

/-- What the body stores for residue `r` and alternative `a` of its block. -/
theorem out_at (h7 : ∀ (i : Fin 512) (j : Fin 64), x7 (ix2 i j) = if i.val = 8 * j.val then (1 : EReal) else 0)
    (a : Fin 4) (r : Fin 4096) (y : BitVec 1) (hy : x1 (ix2 a ⟨8 * r.val, by omega⟩) = y.setWidth 8)
    (hx : (x0 (ix2 1 ⟨8 * r.val, by omega⟩)).toNat < 20 ∨ x0 (ix2 1 ⟨8 * r.val, by omega⟩) = 999#32) :
    out0_9 (F := Ideal) x0 x1 x2 x3 x4 x5 x6 x7 x8 (ix4 0 0 a r)
      = pick (if y = 1#1 then x8 (ix2 0 0) * RefGrid.entropy (x0 (ix2 1 ⟨8 * r.val, by omega⟩)) else 0)
          ((if y = 1#1 then x8 (ix2 0 0) * RefGrid.entropy (x0 (ix2 1 ⟨8 * r.val, by omega⟩)) else 0) * max (x4 (ix4 0 0 a r)) 0)
          (FloatOps.absf (F := Ideal) (φ := .f32)
            ((∑ x, x2 (ix5 0 0 a x r)) + x5 (ix5 0 0 a 0 r) + x6 (ix5 0 0 a 0 r) + ∑ x, x3 (ix5 0 0 a x r) : EReal)) := by
  have hz : (![0, 0, 0, 0] : Fin 4 → ℕ) = fun _ => 0 := by funext i; fin_cases i <;> rfl
  have e := last_at x4 (k0_pay167 (F := Ideal) x0 x1 x2 x3 x4 x5 x6 x7 x8) (altOf (k0_pay166 (F := Ideal) x0 x1 x2 x3 x4 x5 x6 x7 x8))
    (k0_pay114 (F := Ideal) (k0_pay111 (View.ld x3 r0_3)) (k0_pay112 (View.ld x2 r0_3)) (k0_pay113 (View.ld x2 r0_3)) (View.ld x5 r0_4) (View.ld x6 r0_4))
    (k0_pay115 (F := Ideal) (View.ld x8 r0_5)) (rowOf (k0_pay167 (F := Ideal) x0 x1 x2 x3 x4 x5 x6 x7 x8)) a r
  rw [row_at, energy_at, scale_at, alt_at x0 x1 x2 x3 x4 x5 x6 x7 x8 h7, name_at x0 x1 x2 x3 x4 x5 x6 x7 x8 h7, hy, lower_eq _ _ _ hx] at e
  rw [← e]
  unfold out0_9
  rw [View.canon_unit_zero hz]
  refine (unit_at _ a r).trans ?_
  rw [scale_at]
  unfold altOf rowOf
  rfl

end Cert.Proof.Body

end
-- ==== Proof.Inputs.lean ====
/- The arrays that the kernel is launched on, read at an index, as the host's lines leave them. -/
module

public import proofs.«01_k».proof.Proof.Body
public import proofs.«01_k».proof.Proof.Gen.KernelIdeal.Frame
public import Idealize.ShloMosaic.Lib.StableHlo.ReadAt

@[expose] public section

set_option maxRecDepth 16384

noncomputable section

namespace Cert.Proof.Inputs

open Idealize.ShloMosaic Cert.KernelIdeal Cert.KernelIdeal.Gen

variable (m : (ℓ : Loc nD τ sig) → Buf (Elt Ideal) ℓ) (c : Dev nD)

/-! The argument arrays at the launch. -/

def atoms : IVec ⟨2, ![2097152, 5]⟩ 32 := m ((c.tc : Thread nD τ).loc main_arg0)
def areas : FVec Ideal ⟨4, ![8, 8, 4096, 4]⟩ .f32 := m ((c.tc : Thread nD τ).loc main_arg1)
def bonds : FVec Ideal ⟨5, ![8, 8, 4096, 4, 4]⟩ .f32 := m ((c.tc : Thread nD τ).loc main_arg2)
def waals : FVec Ideal ⟨5, ![8, 8, 4096, 4, 1]⟩ .f32 := m ((c.tc : Thread nD τ).loc main_arg3)
def charges : FVec Ideal ⟨5, ![8, 8, 4096, 4, 1]⟩ .f32 := m ((c.tc : Thread nD τ).loc main_arg4)
def clashes : FVec Ideal ⟨5, ![8, 8, 4096, 4, 4]⟩ .f32 := m ((c.tc : Thread nD τ).loc main_arg5)
def alts : IVec ⟨2, ![2097152, 4]⟩ 1 := m ((c.tc : Thread nD τ).loc main_arg6)
def weight : FVec Ideal ⟨1, ![1]⟩ .f32 := m ((c.tc : Thread nD τ).loc main_arg7)

/-- The table of atoms, its columns first. -/
theorem atoms_at (k : Fin 5) (n : Fin 2097152) : (V m c main_v0 : IVec S5x2097152 32) (ix2 k n) = atoms m c (ix2 n k) := by
  unfold V V0 atoms
  after_reads_at

/-- The alternatives, their columns first, as words of eight bits. -/
theorem alts_at (k : Fin 4) (n : Fin 2097152) : (V m c main_v3 : IVec S4x2097152 8) (ix2 k n) = (alts m c (ix2 n k)).setWidth 8 := by
  unfold V V0 alts
  after_reads_at
  rfl

theorem bonds_at (b k : Fin 8) (a x : Fin 4) (r : Fin 4096) : (V m c main_v4 : FVec Ideal S8x8x4x4x4096 .f32) (ix5 b k a x r) = bonds m c (ix5 b k r a x) := by
  unfold V V0 bonds
  after_reads_at

theorem clashes_at (b k : Fin 8) (a x : Fin 4) (r : Fin 4096) : (V m c main_v5 : FVec Ideal S8x8x4x4x4096 .f32) (ix5 b k a x r) = clashes m c (ix5 b k r a x) := by
  unfold V V0 clashes
  after_reads_at

theorem areas_at (b k : Fin 8) (a : Fin 4) (r : Fin 4096) : (V m c main_v6 : FVec Ideal S8x8x4x4096 .f32) (ix4 b k a r) = areas m c (ix4 b k r a) := by
  unfold V V0 areas
  after_reads_at

theorem waals_at (b k : Fin 8) (a : Fin 4) (r : Fin 4096) : (V m c main_v7 : FVec Ideal S8x8x4x1x4096 .f32) (ix5 b k a 0 r) = waals m c (ix5 b k r a 0) := by
  unfold V V0 waals
  after_reads_at

theorem charges_at (b k : Fin 8) (a : Fin 4) (r : Fin 4096) : (V m c main_v8 : FVec Ideal S8x8x4x1x4096 .f32) (ix5 b k a 0 r) = charges m c (ix5 b k r a 0) := by
  unfold V V0 charges
  after_reads_at

/-- The scale of the entropy term. -/
theorem scale_at : (V m c main_v15 : FVec Ideal S1x1 .f32) (ix2 0 0) = RefGrid.scale (weight m c) := by
  unfold V V0 weight RefGrid.scale
  after_reads_at

/-- The matrix that keeps every eighth row. -/
theorem keep_at (i : Fin 512) (j : Fin 64) : (V m c main_v21 : FVec Ideal S512x64 .bf16) (ix2 i j) = if i.val = 8 * j.val then (1 : EReal) else 0 := by
  unfold V V0
  after_reads_at
  have e : IntOp.muli 8#32 (BitVec.ofNat 32 j.val) = BitVec.ofNat 32 (8 * j.val) := by
    unfold IntOp.muli
    exact BitVec.eq_of_toNat_eq (by simp)
  have q : (BitVec.ofNat 32 i.val = BitVec.ofNat 32 (8 * j.val)) ↔ i.val = 8 * j.val := by
    rw [← BitVec.toNat_inj, BitVec.toNat_ofNat, BitVec.toNat_ofNat]; omega
  have u : ∀ b : BitVec 1, FloatOps.uitofp (F := Ideal) .bf16 b = ((b.toNat : ℝ) : EReal) := fun _ => rfl
  rw [e, u]
  by_cases h : i.val = 8 * j.val
  · rw [if_pos h, h]
    simp [IntOp.cmpi]
  · have n : (BitVec.ofNat 32 i.val == BitVec.ofNat 32 (8 * j.val)) = false := beq_eq_false_iff_ne.mpr fun x => h (q.mp x)
    rw [if_neg h]
    simp [IntOp.cmpi, n]

end Cert.Proof.Inputs

end
-- ==== Proof.Array.lean ====
/- What the kernel's output array holds after its last block. -/
module

public import proofs.«01_k».proof.Proof.Inputs
public import Idealize.ShloMosaic.Lib.Pipeline.ValueKit

@[expose] public section

set_option maxRecDepth 16384

noncomputable section

namespace Cert.Proof.Array

open Idealize.ShloMosaic Cert.KernelIdeal Cert.KernelIdeal.Gen Cert.Proof.Inputs Cert.Proof.Atoms
open Cert.Proof.RefValue (value)

variable (m : (ℓ : Loc nD τ sig) → Buf (Elt Ideal) ℓ) (c : Dev nD)

/-- The batch of a grid point. -/
def bat (t : Fin cfg0.N) : Fin 8 := grid0.coords t 0
/-- The chain of a grid point. -/
def chn (t : Fin cfg0.N) : Fin 8 := grid0.coords t 1

/-- Which block each window stands at. -/
theorem places : ∀ t : Fin cfg0.N, win0_0.index t = ![0, (bat t).val * 8 + (chn t).val] ∧ win0_1.index t = ![0, (bat t).val * 8 + (chn t).val]
    ∧ win0_2.index t = ![(bat t).val, (chn t).val, 0, 0, 0] ∧ win0_3.index t = ![(bat t).val, (chn t).val, 0, 0, 0]
    ∧ win0_4.index t = ![(bat t).val, (chn t).val, 0, 0] ∧ win0_5.index t = ![(bat t).val, (chn t).val, 0, 0, 0]
    ∧ win0_6.index t = ![(bat t).val, (chn t).val, 0, 0, 0] ∧ win0_7.index t = ![0, 0] ∧ win0_8.index t = ![0, 0]
    ∧ win0_9.index t = ![(bat t).val, (chn t).val, 0, 0] :=
  (by decide +kernel : ∀ t : Fin grid0.N, _)

theorem blk0 (t : Fin cfg0.N) (k : Fin 5) (n : Fin 32768) :
    (iblk m c 0 t : Vec Ideal S5x32768 .i32) (ix2 k n) = atoms m c (ix2 ⟨((bat t).val * 8 + (chn t).val) * 32768 + n.val, by omega⟩ k) := by
  rw [← atoms_at]
  blk_ext [iblk, (places t).1]

theorem blk1 (t : Fin cfg0.N) (k : Fin 4) (n : Fin 32768) :
    (iblk m c 1 t : Vec Ideal S4x32768 .i8) (ix2 k n) = (alts m c (ix2 ⟨((bat t).val * 8 + (chn t).val) * 32768 + n.val, by omega⟩ k)).setWidth 8 := by
  rw [← alts_at]
  blk_ext [iblk, (places t).2.1]

theorem blk2 (t : Fin cfg0.N) (a x : Fin 4) (r : Fin 4096) :
    (iblk m c 2 t : Vec Ideal S1x1x4x4x4096 .f32) (ix5 0 0 a x r) = bonds m c (ix5 (bat t) (chn t) r a x) := by
  rw [← bonds_at]
  blk_ext [iblk, (places t).2.2.1]

theorem blk3 (t : Fin cfg0.N) (a x : Fin 4) (r : Fin 4096) :
    (iblk m c 3 t : Vec Ideal S1x1x4x4x4096 .f32) (ix5 0 0 a x r) = clashes m c (ix5 (bat t) (chn t) r a x) := by
  rw [← clashes_at]
  blk_ext [iblk, (places t).2.2.2.1]

theorem blk4 (t : Fin cfg0.N) (a : Fin 4) (r : Fin 4096) :
    (iblk m c 4 t : Vec Ideal S1x1x4x4096 .f32) (ix4 0 0 a r) = areas m c (ix4 (bat t) (chn t) r a) := by
  rw [← areas_at]
  blk_ext [iblk, (places t).2.2.2.2.1]

theorem blk5 (t : Fin cfg0.N) (a : Fin 4) (r : Fin 4096) :
    (iblk m c 5 t : Vec Ideal S1x1x4x1x4096 .f32) (ix5 0 0 a 0 r) = waals m c (ix5 (bat t) (chn t) r a 0) := by
  rw [← waals_at]
  blk_ext [iblk, (places t).2.2.2.2.2.1]

theorem blk6 (t : Fin cfg0.N) (a : Fin 4) (r : Fin 4096) :
    (iblk m c 6 t : Vec Ideal S1x1x4x1x4096 .f32) (ix5 0 0 a 0 r) = charges m c (ix5 (bat t) (chn t) r a 0) := by
  rw [← charges_at]
  blk_ext [iblk, (places t).2.2.2.2.2.2.1]

theorem blk7 (t : Fin cfg0.N) (i : Fin 512) (j : Fin 64) :
    (iblk m c 7 t : Vec Ideal S512x64 .bf16) (ix2 i j) = if i.val = 8 * j.val then (1 : EReal) else 0 := by
  rw [← keep_at m c]
  blk_ext [iblk, (places t).2.2.2.2.2.2.2.1]

theorem blk8 (t : Fin cfg0.N) : (iblk m c 8 t : Vec Ideal S1x1 .f32) (ix2 0 0) = RefGrid.scale (weight m c) := by
  rw [← scale_at]
  blk_ext [iblk, (places t).2.2.2.2.2.2.2.2.1]

/-- The whole output array as a function of the argument arrays. -/
def whole : FVec Ideal S8x8x4x4096 .f32 := fun i =>
  value (atoms m c) (areas m c) (bonds m c) (waals m c) (charges m c) (clashes m c) (alts m c) (weight m c) (i 0) (i 1) (i 3) (i 2)

/-- What a point leaves in its output block. -/
theorem point (hA : Good (atoms m c)) (t : Fin cfg0.N) (a : Fin 4) (r : Fin 4096) :
    out0_9 (F := Ideal) (iblk m c 0 t) (iblk m c 1 t) (iblk m c 2 t) (iblk m c 3 t) (iblk m c 4 t) (iblk m c 5 t) (iblk m c 6 t) (iblk m c 7 t) (iblk m c 8 t)
        (ix4 0 0 a r) = whole m c (ix4 (bat t) (chn t) a r) := by
  have f : (⟨((bat t).val * 8 + (chn t).val) * 32768 + 8 * r.val, by omega⟩ : Fin 2097152) = first (bat t) (chn t) r := Fin.ext (by simp only [first]; omega)
  have e0 := blk0 m c t 1 ⟨8 * r.val, by omega⟩
  have e1 := blk1 m c t a ⟨8 * r.val, by omega⟩
  rw [f] at e0 e1
  have n := hA.name (bat t) (chn t) r
  rw [← e0] at n
  rw [Body.out_at _ _ _ _ _ _ _ _ _ (blk7 m c t) a r _ e1 n, e0, blk8, blk4, blk5, blk6]
  simp only [blk2, blk3]
  rfl

end Cert.Proof.Array

end
-- ==== Proof.Result.lean ====
/- What the program's result holds after the run. -/
module

public import proofs.«01_k».proof.Proof.Array

@[expose] public section

set_option maxRecDepth 16384

noncomputable section

namespace Cert.Proof.Result

open Idealize.ShloMosaic Cert.KernelIdeal Cert.KernelIdeal.Gen Cert.Proof.Inputs Cert.Proof.Atoms Cert.Proof.Array
open Cert.Proof.RefValue (value)

variable (m : (ℓ : Loc nD τ sig) → Buf (Elt Ideal) ℓ) (c : Dev nD)

/-- The output array after the last point. -/
theorem array (hA : Good (atoms m c)) : (dats m 0 c).arrAt 9 (cfgs 0).N = whole m c := by
  refine (dats m 0 c).arrAt_eq_of_covers 9 _ (by decide +kernel) fun t hf y => ?_
  blk_simp
  rw [after0_9]
  obtain ⟨u, v, a, r, rfl⟩ : ∃ (u v : Fin 1) (a : Fin 4) (r : Fin 4096), y = ix4 u v a r := ⟨y 0, y 1, y 2, y 3, eq_ix4 y⟩
  obtain rfl : u = 0 := Subsingleton.elim _ _
  obtain rfl : v = 0 := Subsingleton.elim _ _
  refine (point m c hA t a r).trans ?_
  blk_ext [(places t).2.2.2.2.2.2.2.2.2]

/-- The program's result at one element. -/
theorem result (hA : Good (atoms m c)) : (Pipeline.afterTail₀ cfgs (dats m) 0 (V0 m) [hostOps1] c main_v23 : FVec Ideal S8x8x4096x4 .f32)
    = fun i => value (atoms m c) (areas m c) (bonds m c) (waals m c) (charges m c) (clashes m c) (alts m c) (weight m c) (i 0) (i 1) (i 2) (i 3) := by
  funext i
  obtain ⟨b, k, r, a, rfl⟩ : ∃ b k r a, i = ix4 b k r a := ⟨i 0, i 1, i 2, i 3, eq_ix4 i⟩
  have e : Pipeline.withArrays spec0 c (V0 m c) (fun w => (dats m 0 c).arrAt w (cfgs 0).N) (Proc.devRef .tc main_v22) = whole m c :=
    (Pipeline.withArrays_arr spec0 (by decide) c (V0 m c) (fun w => (dats m 0 c).arrAt w (cfgs 0).N) 9).trans (array m c hA)
  unfold Pipeline.afterTail₀
  after_reads_at
  exact congrFun e (ix4 b k a r)

end Cert.Proof.Result

end
-- ==== Proof.Equation.lean ====
/- The two programs end with the same result. -/
module

public import proofs.«01_k».proof.Defs
public import proofs.«01_k».proof.Proof.Result
public import proofs.«01_k».proof.Proof.Gen.ReferenceIdeal.Run
public import Idealize.ShloMosaic.Lib.Claim

@[expose] public section

set_option maxRecDepth 16384

noncomputable section

namespace Cert.Proof.Equation

open Idealize.ShloMosaic Idealize.SL.Sem Cert.Proof.Atoms
open Cert.Proof.RefValue (value)
open Cert.Proof.Inputs (atoms areas bonds waals charges clashes alts weight)

variable (m : (ℓ : Loc Cert.KernelIdeal.nD Cert.KernelIdeal.τ Cert.KernelIdeal.sig) → Buf (Elt Ideal) ℓ)

/-- The result of both programs, as a function of the kernel's argument arrays. -/
def both (c : Dev Cert.KernelIdeal.nD) : FVec Ideal ⟨4, ![8, 8, 4096, 4]⟩ .f32 := fun i =>
  value (atoms m c) (areas m c) (bonds m c) (waals m c) (charges m c) (clashes m c) (alts m c) (weight m c) (i 0) (i 1) (i 2) (i 3)

/-- The precondition says of every device's table of atoms what the value needs. -/
theorem asked (h : Cert.Pre_KernelIdeal_ca_atoms_lead m) (c : Dev Cert.KernelIdeal.nD) : Good (atoms m c) :=
  good (atoms m c) (areas m c) (bonds m c) (waals m c) (charges m c) (clashes m c) (alts m c) (weight m c) (h c)

/-- Equal arrays have equal values. -/
theorem value_congr {A A' : IVec ⟨2, ![2097152, 5]⟩ 32} {sa sa' : FVec Ideal ⟨4, ![8, 8, 4096, 4]⟩ .f32}
    {hb hb' cl cl' : FVec Ideal ⟨5, ![8, 8, 4096, 4, 4]⟩ .f32} {vd vd' el el' : FVec Ideal ⟨5, ![8, 8, 4096, 4, 1]⟩ .f32}
    {al al' : IVec ⟨2, ![2097152, 4]⟩ 1} {w w' : FVec Ideal ⟨1, ![1]⟩ .f32} (h0 : A = A') (h1 : sa = sa') (h2 : hb = hb') (h3 : vd = vd')
    (h4 : el = el') (h5 : cl = cl') (h6 : al = al') (h7 : w = w') (b c : Fin 8) (r : Fin 4096) (a : Fin 4) :
    value A sa hb vd el cl al w b c r a = value A' sa' hb' vd' el' cl' al' w' b c r a := by
  subst h0 h1 h2 h3 h4 h5 h6 h7; rfl

/-- The programs agree, element by element, on the result. -/
theorem equal : Cert.algebraic_KernelIdeal_ReferenceIdeal_pre_ca_atoms_lead := by
  intro m g m' g' hpre hagree
  refine ⟨both m, ?_, ?_⟩
  · exact (θ_run Cert.KernelIdeal.defs _ _).mono
      (fun r h c => ⟨((h.2 c).2 Cert.KernelIdeal.main_v23 (Pipeline.mem_restRefs_of Cert.KernelIdeal.main_v23 (by decide) (by decide))).trans
        (Result.result m c (asked m hpre c)), h.1 c⟩)
      (θ_run_and (Cert.KernelIdeal.Gen.unchanged m g) (Cert.KernelIdeal.Gen.run_main m g))
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7⟩ := hagree c
    have hA : Good (RefGrid.atoms (StableHlo.launchContents m' c)) :=
      (congrArg Good (show RefGrid.atoms (StableHlo.launchContents m' c) = atoms m c from h0)).mpr (asked m hpre c)
    funext i
    obtain ⟨b, k, r, a, rfl⟩ : ∃ (b k : Fin 8) (r : Fin 4096) (a : Fin 4), i = ix4 b k r a := ⟨i 0, i 1, i 2, i 3, eq_ix4 i⟩
    exact (RefValue.result_at (StableHlo.launchContents m' c) hA b k r a).trans (value_congr h0 h1 h2 h3 h4 h5 h6 h7 b k r a)

end Cert.Proof.Equation

end
-- ==== Proof.lean ====
/- The proof of the certificate's claim: the frames are the generated ones, and the equation of the two programs is
   `Equation.equal`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ca_atoms_lead
public import proofs.«01_k».proof.Proof.Equation
public import Idealize.ShloMosaic.Adequacy
public import Idealize.ShloMosaic.Init

@[expose] public section

noncomputable section

namespace Cert.Proof

open Idealize.ShloMosaic Idealize.SL.Sem

/-- The reference ends with its arguments unchanged and no semaphore counted. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- All that the certificate claims. -/
theorem claim : Cert.Claim :=
  ⟨Cert.Kernel.Gen.facts, Cert.KernelIdeal.Gen.facts, Cert.ReferenceIdeal.Gen.facts, Cert.Pre_ca_atoms_lead.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, Equation.equal⟩

end Cert.Proof

end
